-- ==== Defs.lean ====
def Pre_Wattn (m : (ℓ : Loc Cert.Wattn.nD Cert.Wattn.τ Cert.Wattn.sig) → Buf (Elt Bits) ℓ) : Prop :=
  True

def Pre_WattnIdeal (m : (ℓ : Loc Cert.WattnIdeal.nD Cert.WattnIdeal.τ Cert.WattnIdeal.sig) → Buf (Elt Ideal) ℓ) : Prop :=
  True

def Pre_WattnIdeal_finite [hPre_finite : Cert.Pre_finite.Facts] (m : (ℓ : Loc Cert.WattnIdeal.nD Cert.WattnIdeal.τ Cert.WattnIdeal.sig) → Buf (Elt Ideal) ℓ) : Prop :=
  ∀ c : Dev Cert.WattnIdeal.nD,
    (Cert.Pre_finite.fn (F := Ideal) (m ((c.tc : Thread Cert.WattnIdeal.nD Cert.WattnIdeal.τ).loc Cert.WattnIdeal.main_arg0)) (m ((c.tc : Thread Cert.WattnIdeal.nD Cert.WattnIdeal.τ).loc Cert.WattnIdeal.main_arg1)) (m ((c.tc : Thread Cert.WattnIdeal.nD Cert.WattnIdeal.τ).loc Cert.WattnIdeal.main_arg2))) = (fun _ => 1#1)

def Pre_WattnRefIdeal (m : (ℓ : Loc Cert.WattnRefIdeal.nD Cert.WattnRefIdeal.τ Cert.WattnRefIdeal.sig) → Buf (Elt Ideal) ℓ) : Prop :=
  True

def Pre_WattnRefIdeal_finite [hPre_finite : Cert.Pre_finite.Facts] (m : (ℓ : Loc Cert.WattnRefIdeal.nD Cert.WattnRefIdeal.τ Cert.WattnRefIdeal.sig) → Buf (Elt Ideal) ℓ) : Prop :=
  ∀ c : Dev Cert.WattnRefIdeal.nD,
    (Cert.Pre_finite.fn (F := Ideal) (m ((c.tc : Thread Cert.WattnRefIdeal.nD Cert.WattnRefIdeal.τ).loc Cert.WattnRefIdeal.main_arg0)) (m ((c.tc : Thread Cert.WattnRefIdeal.nD Cert.WattnRefIdeal.τ).loc Cert.WattnRefIdeal.main_arg1)) (m ((c.tc : Thread Cert.WattnRefIdeal.nD Cert.WattnRefIdeal.τ).loc Cert.WattnRefIdeal.main_arg2))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_in [hPre_finite_in : Cert.Pre_finite_in.Facts] (m : (ℓ : Loc Cert.InprojIdeal.nD Cert.InprojIdeal.τ Cert.InprojIdeal.sig) → Buf (Elt Ideal) ℓ) : Prop :=
  ∀ c : Dev Cert.InprojIdeal.nD,
    (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_in [hPre_finite_in : Cert.Pre_finite_in.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_in.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))) = (fun _ => 1#1)

def quiescent_Wattn [hWattn : Cert.Wattn.Facts] : Prop :=
  ∀ (m : (ℓ : Loc Cert.Wattn.nD Cert.Wattn.τ Cert.Wattn.sig) → Buf (Elt Bits) ℓ) (g : Dev Cert.Wattn.nD → PrngReg), Pre_Wattn m →
    θ_run (Cert.Wattn.defs (F := Bits)) (onTc (τ := Cert.Wattn.τ) (Cert.Wattn.main (F := Bits))) ⟨m, fun _ => 0, g⟩ (fun r => (∀ c : Dev Cert.Wattn.nD,
      r.2.mem ((c.tc : Thread Cert.Wattn.nD Cert.Wattn.τ).loc Cert.Wattn.main_arg0) = m ((c.tc : Thread Cert.Wattn.nD Cert.Wattn.τ).loc Cert.Wattn.main_arg0)
      ∧ r.2.mem ((c.tc : Thread Cert.Wattn.nD Cert.Wattn.τ).loc Cert.Wattn.main_arg1) = m ((c.tc : Thread Cert.Wattn.nD Cert.Wattn.τ).loc Cert.Wattn.main_arg1)
      ∧ r.2.mem ((c.tc : Thread Cert.Wattn.nD Cert.Wattn.τ).loc Cert.Wattn.main_arg2) = m ((c.tc : Thread Cert.Wattn.nD Cert.Wattn.τ).loc Cert.Wattn.main_arg2))
      ∧ r.2.sem = fun _ => 0)

def quiescent_WattnIdeal [hWattnIdeal : Cert.WattnIdeal.Facts] : Prop :=
  ∀ (m : (ℓ : Loc Cert.WattnIdeal.nD Cert.WattnIdeal.τ Cert.WattnIdeal.sig) → Buf (Elt Ideal) ℓ) (g : Dev Cert.WattnIdeal.nD → PrngReg), Pre_WattnIdeal m →
    θ_run (Cert.WattnIdeal.defs (F := Ideal)) (onTc (τ := Cert.WattnIdeal.τ) (Cert.WattnIdeal.main (F := Ideal))) ⟨m, fun _ => 0, g⟩ (fun r => (∀ c : Dev Cert.WattnIdeal.nD,
      r.2.mem ((c.tc : Thread Cert.WattnIdeal.nD Cert.WattnIdeal.τ).loc Cert.WattnIdeal.main_arg0) = m ((c.tc : Thread Cert.WattnIdeal.nD Cert.WattnIdeal.τ).loc Cert.WattnIdeal.main_arg0)
      ∧ r.2.mem ((c.tc : Thread Cert.WattnIdeal.nD Cert.WattnIdeal.τ).loc Cert.WattnIdeal.main_arg1) = m ((c.tc : Thread Cert.WattnIdeal.nD Cert.WattnIdeal.τ).loc Cert.WattnIdeal.main_arg1)
      ∧ r.2.mem ((c.tc : Thread Cert.WattnIdeal.nD Cert.WattnIdeal.τ).loc Cert.WattnIdeal.main_arg2) = m ((c.tc : Thread Cert.WattnIdeal.nD Cert.WattnIdeal.τ).loc Cert.WattnIdeal.main_arg2))
      ∧ r.2.sem = fun _ => 0)

def quiescent_WattnIdeal_pre_finite [hWattnIdeal : Cert.WattnIdeal.Facts] [hPre_finite : Cert.Pre_finite.Facts] : Prop :=
  ∀ (m : (ℓ : Loc Cert.WattnIdeal.nD Cert.WattnIdeal.τ Cert.WattnIdeal.sig) → Buf (Elt Ideal) ℓ) (g : Dev Cert.WattnIdeal.nD → PrngReg), Pre_WattnIdeal_finite m →
    θ_run (Cert.WattnIdeal.defs (F := Ideal)) (onTc (τ := Cert.WattnIdeal.τ) (Cert.WattnIdeal.main (F := Ideal))) ⟨m, fun _ => 0, g⟩ (fun r => (∀ c : Dev Cert.WattnIdeal.nD,
      r.2.mem ((c.tc : Thread Cert.WattnIdeal.nD Cert.WattnIdeal.τ).loc Cert.WattnIdeal.main_arg0) = m ((c.tc : Thread Cert.WattnIdeal.nD Cert.WattnIdeal.τ).loc Cert.WattnIdeal.main_arg0)
      ∧ r.2.mem ((c.tc : Thread Cert.WattnIdeal.nD Cert.WattnIdeal.τ).loc Cert.WattnIdeal.main_arg1) = m ((c.tc : Thread Cert.WattnIdeal.nD Cert.WattnIdeal.τ).loc Cert.WattnIdeal.main_arg1)
      ∧ r.2.mem ((c.tc : Thread Cert.WattnIdeal.nD Cert.WattnIdeal.τ).loc Cert.WattnIdeal.main_arg2) = m ((c.tc : Thread Cert.WattnIdeal.nD Cert.WattnIdeal.τ).loc Cert.WattnIdeal.main_arg2))
      ∧ r.2.sem = fun _ => 0)

def quiescent_WattnRefIdeal [hWattnRefIdeal : Cert.WattnRefIdeal.Facts] : Prop :=
  ∀ (m : (ℓ : Loc Cert.WattnRefIdeal.nD Cert.WattnRefIdeal.τ Cert.WattnRefIdeal.sig) → Buf (Elt Ideal) ℓ) (g : Dev Cert.WattnRefIdeal.nD → PrngReg), Pre_WattnRefIdeal m →
    θ_run (Cert.WattnRefIdeal.defs (F := Ideal)) (onTc (τ := Cert.WattnRefIdeal.τ) (Cert.WattnRefIdeal.main (F := Ideal))) ⟨m, fun _ => 0, g⟩ (fun r => (∀ c : Dev Cert.WattnRefIdeal.nD,
      r.2.mem ((c.tc : Thread Cert.WattnRefIdeal.nD Cert.WattnRefIdeal.τ).loc Cert.WattnRefIdeal.main_arg0) = m ((c.tc : Thread Cert.WattnRefIdeal.nD Cert.WattnRefIdeal.τ).loc Cert.WattnRefIdeal.main_arg0)
      ∧ r.2.mem ((c.tc : Thread Cert.WattnRefIdeal.nD Cert.WattnRefIdeal.τ).loc Cert.WattnRefIdeal.main_arg1) = m ((c.tc : Thread Cert.WattnRefIdeal.nD Cert.WattnRefIdeal.τ).loc Cert.WattnRefIdeal.main_arg1)
      ∧ r.2.mem ((c.tc : Thread Cert.WattnRefIdeal.nD Cert.WattnRefIdeal.τ).loc Cert.WattnRefIdeal.main_arg2) = m ((c.tc : Thread Cert.WattnRefIdeal.nD Cert.WattnRefIdeal.τ).loc Cert.WattnRefIdeal.main_arg2))
      ∧ r.2.sem = fun _ => 0)

def quiescent_WattnRefIdeal_pre_finite [hWattnRefIdeal : Cert.WattnRefIdeal.Facts] [hPre_finite : Cert.Pre_finite.Facts] : Prop :=
  ∀ (m : (ℓ : Loc Cert.WattnRefIdeal.nD Cert.WattnRefIdeal.τ Cert.WattnRefIdeal.sig) → Buf (Elt Ideal) ℓ) (g : Dev Cert.WattnRefIdeal.nD → PrngReg), Pre_WattnRefIdeal_finite m →
    θ_run (Cert.WattnRefIdeal.defs (F := Ideal)) (onTc (τ := Cert.WattnRefIdeal.τ) (Cert.WattnRefIdeal.main (F := Ideal))) ⟨m, fun _ => 0, g⟩ (fun r => (∀ c : Dev Cert.WattnRefIdeal.nD,
      r.2.mem ((c.tc : Thread Cert.WattnRefIdeal.nD Cert.WattnRefIdeal.τ).loc Cert.WattnRefIdeal.main_arg0) = m ((c.tc : Thread Cert.WattnRefIdeal.nD Cert.WattnRefIdeal.τ).loc Cert.WattnRefIdeal.main_arg0)
      ∧ r.2.mem ((c.tc : Thread Cert.WattnRefIdeal.nD Cert.WattnRefIdeal.τ).loc Cert.WattnRefIdeal.main_arg1) = m ((c.tc : Thread Cert.WattnRefIdeal.nD Cert.WattnRefIdeal.τ).loc Cert.WattnRefIdeal.main_arg1)
      ∧ r.2.mem ((c.tc : Thread Cert.WattnRefIdeal.nD Cert.WattnRefIdeal.τ).loc Cert.WattnRefIdeal.main_arg2) = m ((c.tc : Thread Cert.WattnRefIdeal.nD Cert.WattnRefIdeal.τ).loc Cert.WattnRefIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojIdeal_pre_finite_in [hInprojIdeal : Cert.InprojIdeal.Facts] [hPre_finite_in : Cert.Pre_finite_in.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_in m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_InprojRefIdeal_pre_finite_in [hInprojRefIdeal : Cert.InprojRefIdeal.Facts] [hPre_finite_in : Cert.Pre_finite_in.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_in m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Wattn_WattnIdeal : Prop :=
  IdealRules.named_const.Statement Cert.WattnIdeal.κ "mask" .f32 0xF149F2CA#32 ⊥

def algebraic_WattnIdeal_WattnRefIdeal_pre_finite [hWattnIdeal : Cert.WattnIdeal.Facts] [hWattnRefIdeal : Cert.WattnRefIdeal.Facts] [hPre_finite : Cert.Pre_finite.Facts] : Prop :=
  ∀ (m : (ℓ : Loc Cert.WattnIdeal.nD Cert.WattnIdeal.τ Cert.WattnIdeal.sig) → Buf (Elt Ideal) ℓ) (g : Dev Cert.WattnIdeal.nD → PrngReg)
    (m' : (ℓ : Loc Cert.WattnRefIdeal.nD Cert.WattnRefIdeal.τ Cert.WattnRefIdeal.sig) → Buf (Elt Ideal) ℓ) (g' : Dev Cert.WattnRefIdeal.nD → PrngReg), Pre_WattnIdeal_finite m →
    (∀ c : Dev Cert.WattnIdeal.nD,
      m' ((c.tc : Thread Cert.WattnRefIdeal.nD Cert.WattnRefIdeal.τ).loc Cert.WattnRefIdeal.main_arg0) = m ((c.tc : Thread Cert.WattnIdeal.nD Cert.WattnIdeal.τ).loc Cert.WattnIdeal.main_arg0)
      ∧ m' ((c.tc : Thread Cert.WattnRefIdeal.nD Cert.WattnRefIdeal.τ).loc Cert.WattnRefIdeal.main_arg1) = m ((c.tc : Thread Cert.WattnIdeal.nD Cert.WattnIdeal.τ).loc Cert.WattnIdeal.main_arg1)
      ∧ m' ((c.tc : Thread Cert.WattnRefIdeal.nD Cert.WattnRefIdeal.τ).loc Cert.WattnRefIdeal.main_arg2) = m ((c.tc : Thread Cert.WattnIdeal.nD Cert.WattnIdeal.τ).loc Cert.WattnIdeal.main_arg2)) →
    ∃ (v0 : (c : Dev Cert.WattnIdeal.nD) → Buf (Elt Ideal) ((c.tc : Thread Cert.WattnIdeal.nD Cert.WattnIdeal.τ).loc Cert.WattnIdeal.main_v0)),
      θ_run (Cert.WattnIdeal.defs (F := Ideal)) (onTc (τ := Cert.WattnIdeal.τ) (Cert.WattnIdeal.main (F := Ideal))) ⟨m, fun _ => 0, g⟩ (fun r => ∀ c : Dev Cert.WattnIdeal.nD,
          r.2.mem ((c.tc : Thread Cert.WattnIdeal.nD Cert.WattnIdeal.τ).loc Cert.WattnIdeal.main_v0) = v0 c
          ∧ r.2.mem ((c.tc : Thread Cert.WattnIdeal.nD Cert.WattnIdeal.τ).loc Cert.WattnIdeal.main_arg0) = m ((c.tc : Thread Cert.WattnIdeal.nD Cert.WattnIdeal.τ).loc Cert.WattnIdeal.main_arg0)
          ∧ r.2.mem ((c.tc : Thread Cert.WattnIdeal.nD Cert.WattnIdeal.τ).loc Cert.WattnIdeal.main_arg1) = m ((c.tc : Thread Cert.WattnIdeal.nD Cert.WattnIdeal.τ).loc Cert.WattnIdeal.main_arg1)
          ∧ r.2.mem ((c.tc : Thread Cert.WattnIdeal.nD Cert.WattnIdeal.τ).loc Cert.WattnIdeal.main_arg2) = m ((c.tc : Thread Cert.WattnIdeal.nD Cert.WattnIdeal.τ).loc Cert.WattnIdeal.main_arg2))
      ∧ θ_run (Cert.WattnRefIdeal.defs (F := Ideal)) (onTc (τ := Cert.WattnRefIdeal.τ) (Cert.WattnRefIdeal.main (F := Ideal))) ⟨m', fun _ => 0, g'⟩ (fun r => ∀ c : Dev Cert.WattnRefIdeal.nD,
          r.2.mem ((c.tc : Thread Cert.WattnRefIdeal.nD Cert.WattnRefIdeal.τ).loc Cert.WattnRefIdeal.main_v97) = v0 c
          ∧ r.2.mem ((c.tc : Thread Cert.WattnRefIdeal.nD Cert.WattnRefIdeal.τ).loc Cert.WattnRefIdeal.main_arg0) = m' ((c.tc : Thread Cert.WattnRefIdeal.nD Cert.WattnRefIdeal.τ).loc Cert.WattnRefIdeal.main_arg0)
          ∧ r.2.mem ((c.tc : Thread Cert.WattnRefIdeal.nD Cert.WattnRefIdeal.τ).loc Cert.WattnRefIdeal.main_arg1) = m' ((c.tc : Thread Cert.WattnRefIdeal.nD Cert.WattnRefIdeal.τ).loc Cert.WattnRefIdeal.main_arg1)
          ∧ r.2.mem ((c.tc : Thread Cert.WattnRefIdeal.nD Cert.WattnRefIdeal.τ).loc Cert.WattnRefIdeal.main_arg2) = m' ((c.tc : Thread Cert.WattnRefIdeal.nD Cert.WattnRefIdeal.τ).loc Cert.WattnRefIdeal.main_arg2))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v85) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Inproj_InprojIdeal : Prop :=
  True

def algebraic_InprojIdeal_InprojRefIdeal_pre_finite_in [hInprojIdeal : Cert.InprojIdeal.Facts] [hInprojRefIdeal : Cert.InprojRefIdeal.Facts] [hPre_finite_in : Cert.Pre_finite_in.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_in m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v83_0)) (v1 : (c : Dev Cert.InprojIdeal.nD) → Buf (Elt Ideal) ((c.tc : Thread Cert.InprojIdeal.nD Cert.InprojIdeal.τ).loc Cert.InprojIdeal.main_v83_1)) (v2 : (c : Dev Cert.InprojIdeal.nD) → Buf (Elt Ideal) ((c.tc : Thread Cert.InprojIdeal.nD Cert.InprojIdeal.τ).loc Cert.InprojIdeal.main_v83_2)) (v3 : (c : Dev Cert.InprojIdeal.nD) → Buf (Elt Ideal) ((c.tc : Thread Cert.InprojIdeal.nD Cert.InprojIdeal.τ).loc Cert.InprojIdeal.main_v83_3)) (v4 : (c : Dev Cert.InprojIdeal.nD) → Buf (Elt Ideal) ((c.tc : Thread Cert.InprojIdeal.nD Cert.InprojIdeal.τ).loc Cert.InprojIdeal.main_v83_4)) (v5 : (c : Dev Cert.InprojIdeal.nD) → Buf (Elt Ideal) ((c.tc : Thread Cert.InprojIdeal.nD Cert.InprojIdeal.τ).loc Cert.InprojIdeal.main_v83_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v83_0) = v0 c
          ∧ r.2.mem ((c.tc : Thread Cert.InprojIdeal.nD Cert.InprojIdeal.τ).loc Cert.InprojIdeal.main_v83_1) = v1 c
          ∧ r.2.mem ((c.tc : Thread Cert.InprojIdeal.nD Cert.InprojIdeal.τ).loc Cert.InprojIdeal.main_v83_2) = v2 c
          ∧ r.2.mem ((c.tc : Thread Cert.InprojIdeal.nD Cert.InprojIdeal.τ).loc Cert.InprojIdeal.main_v83_3) = v3 c
          ∧ r.2.mem ((c.tc : Thread Cert.InprojIdeal.nD Cert.InprojIdeal.τ).loc Cert.InprojIdeal.main_v83_4) = v4 c
          ∧ r.2.mem ((c.tc : Thread Cert.InprojIdeal.nD Cert.InprojIdeal.τ).loc Cert.InprojIdeal.main_v83_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v158) = v0 c
          ∧ r.2.mem ((c.tc : Thread Cert.InprojRefIdeal.nD Cert.InprojRefIdeal.τ).loc Cert.InprojRefIdeal.main_v160) = v1 c
          ∧ r.2.mem ((c.tc : Thread Cert.InprojRefIdeal.nD Cert.InprojRefIdeal.τ).loc Cert.InprojRefIdeal.main_v161) = v2 c
          ∧ r.2.mem ((c.tc : Thread Cert.InprojRefIdeal.nD Cert.InprojRefIdeal.τ).loc Cert.InprojRefIdeal.main_v162) = v3 c
          ∧ r.2.mem ((c.tc : Thread Cert.InprojRefIdeal.nD Cert.InprojRefIdeal.τ).loc Cert.InprojRefIdeal.main_v163) = v4 c
          ∧ r.2.mem ((c.tc : Thread Cert.InprojRefIdeal.nD Cert.InprojRefIdeal.τ).loc Cert.InprojRefIdeal.main_v157) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hWattn : Cert.Wattn.Facts) (hWattnIdeal : Cert.WattnIdeal.Facts) (hWattnRefIdeal : Cert.WattnRefIdeal.Facts) (hMoe : Cert.Moe.Facts) (hMoeIdeal : Cert.MoeIdeal.Facts) (hMoeRefIdeal : Cert.MoeRefIdeal.Facts) (hNorm : Cert.Norm.Facts) (hNormIdeal : Cert.NormIdeal.Facts) (hNormRefIdeal : Cert.NormRefIdeal.Facts) (hInproj : Cert.Inproj.Facts) (hInprojIdeal : Cert.InprojIdeal.Facts) (hInprojRefIdeal : Cert.InprojRefIdeal.Facts) (hPre_finite : Cert.Pre_finite.Facts) (hPre_finite_in : Cert.Pre_finite_in.Facts),
    quiescent_Wattn (hWattn := hWattn)
    ∧ quiescent_WattnIdeal (hWattnIdeal := hWattnIdeal)
    ∧ quiescent_WattnIdeal_pre_finite (hWattnIdeal := hWattnIdeal) (hPre_finite := hPre_finite)
    ∧ quiescent_WattnRefIdeal (hWattnRefIdeal := hWattnRefIdeal)
    ∧ quiescent_WattnRefIdeal_pre_finite (hWattnRefIdeal := hWattnRefIdeal) (hPre_finite := hPre_finite)
    ∧ quiescent_Moe (hMoe := hMoe)
    ∧ quiescent_MoeIdeal (hMoeIdeal := hMoeIdeal)
    ∧ quiescent_MoeRefIdeal (hMoeRefIdeal := hMoeRefIdeal)
    ∧ quiescent_Norm (hNorm := hNorm)
    ∧ quiescent_NormIdeal (hNormIdeal := hNormIdeal)
    ∧ quiescent_NormRefIdeal (hNormRefIdeal := hNormRefIdeal)
    ∧ quiescent_Inproj (hInproj := hInproj)
    ∧ quiescent_InprojIdeal (hInprojIdeal := hInprojIdeal)
    ∧ quiescent_InprojIdeal_pre_finite_in (hInprojIdeal := hInprojIdeal) (hPre_finite_in := hPre_finite_in)
    ∧ quiescent_InprojRefIdeal (hInprojRefIdeal := hInprojRefIdeal)
    ∧ quiescent_InprojRefIdeal_pre_finite_in (hInprojRefIdeal := hInprojRefIdeal) (hPre_finite_in := hPre_finite_in)
    ∧ preserves_Wattn_WattnIdeal
    ∧ algebraic_WattnIdeal_WattnRefIdeal_pre_finite (hWattnIdeal := hWattnIdeal) (hWattnRefIdeal := hWattnRefIdeal) (hPre_finite := hPre_finite)
    ∧ preserves_Moe_MoeIdeal
    ∧ algebraic_MoeIdeal_MoeRefIdeal (hMoeIdeal := hMoeIdeal) (hMoeRefIdeal := hMoeRefIdeal)
    ∧ preserves_Norm_NormIdeal
    ∧ algebraic_NormIdeal_NormRefIdeal (hNormIdeal := hNormIdeal) (hNormRefIdeal := hNormRefIdeal)
    ∧ preserves_Inproj_InprojIdeal
    ∧ algebraic_InprojIdeal_InprojRefIdeal_pre_finite_in (hInprojIdeal := hInprojIdeal) (hInprojRefIdeal := hInprojRefIdeal) (hPre_finite_in := hPre_finite_in)
-- ==== Pre_finite.lean ====
abbrev S4 : Shape := ⟨1, ![4]⟩
abbrev S18432x384 : Shape := ⟨2, ![18432, 384]⟩
abbrev S18432x128 : Shape := ⟨2, ![18432, 128]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bitsLt_bf16_f32 : FTy.bits .bf16 < FTy.bits .f32
  bcast_S_S18432x384 : S_.BroadcastsInDim S18432x384 (![] : Fin 0 → Fin S18432x384.rank)
  reducesTo_S18432x384_S_d0_1 : S18432x384.ReducesTo [0, 1] S_

variable [Facts]

def fn {F : FTy → Type} [FloatOps F] (main_arg0 : FVec F S4 .f32) (main_arg1 : FVec F S18432x384 .bf16) (main_arg2 : FVec F S18432x128 .bf16) : IVec S_ 1 :=
  let main_v0 : FVec F S4 .f32 := Host.absf main_arg0
  let main_cst : FVec F S_ .f32 := constant S_ .f32 0x7F800000#32
  let main_v1 : FVec F S4 .f32 := broadcastInDim S4 ![] bcast_S_S4 main_cst
  let main_v2 : IVec S4 1 := cmpf .olt main_v0 main_v1
  let main_c : IVec S_ 1 := constantI S_ 1 1#1
  let main_v3 : IVec S_ 1 := (fun x v => Host.reduce IntOp.andi x v reducesTo_S4_S_d0 h_S_) main_v2 main_c
  let main_v4 : FVec F S18432x384 .f32 := (extf .f32 · bitsLt_bf16_f32) main_arg1
  let main_v5 : FVec F S18432x384 .f32 := Host.absf main_v4
  let main_cst_0 : FVec F S_ .f32 := constant S_ .f32 0x7F800000#32
  let main_v6 : FVec F S18432x384 .f32 := broadcastInDim S18432x384 ![] bcast_S_S18432x384 main_cst_0
  let main_v7 : IVec S18432x384 1 := cmpf .olt main_v5 main_v6
  let main_c_1 : IVec S_ 1 := constantI S_ 1 1#1
  let main_v8 : IVec S_ 1 := (fun x v => Host.reduce IntOp.andi x v reducesTo_S18432x384_S_d0_1 h_S_) main_v7 main_c_1
  let main_v9 : IVec S_ 1 := andi main_v3 main_v8
  main_v9
-- ==== Pre_finite_in.lean ====
abbrev S18432x1024 : Shape := ⟨2, ![18432, 1024]⟩
abbrev S16x6x1024 : Shape := ⟨3, ![16, 6, 1024]⟩
abbrev S1024 : Shape := ⟨1, ![1024]⟩
abbrev S1024x2576 : Shape := ⟨2, ![1024, 2576]⟩
abbrev S_ : Shape := ⟨0, ![]⟩

class Facts : Prop where
  bcast_S_S18432x1024 : S_.BroadcastsInDim S18432x1024 (![] : Fin 0 → Fin S18432x1024.rank)
  reducesTo_S18432x1024_S_d0_1 : S18432x1024.ReducesTo [0, 1] S_
  h_S_ : 0 < S_.numel
  bcast_S_S16x6x1024 : S_.BroadcastsInDim S16x6x1024 (![] : Fin 0 → Fin S16x6x1024.rank)
  reducesTo_S16x6x1024_S_d0_1_2 : S16x6x1024.ReducesTo [0, 1, 2] S_
  bcast_S_S1024 : S_.BroadcastsInDim S1024 (![] : Fin 0 → Fin S1024.rank)
  reducesTo_S1024_S_d0 : S1024.ReducesTo [0] S_
  bcast_S_S1024x2576 : S_.BroadcastsInDim S1024x2576 (![] : Fin 0 → Fin S1024x2576.rank)
  reducesTo_S1024x2576_S_d0_1 : S1024x2576.ReducesTo [0, 1] S_

variable [Facts]

def fn_part1 {F : FTy → Type} [FloatOps F] (main_v13 : IVec S_ 1) (main_v16 : IVec S1024x2576 1) : IVec S_ 1 :=
  let main_c_5 : IVec S_ 1 := constantI S_ 1 1#1
  let main_v17 : IVec S_ 1 := (fun x v => Host.reduce IntOp.andi x v reducesTo_S1024x2576_S_d0_1 h_S_) main_v16 main_c_5
  let main_v18 : IVec S_ 1 := andi main_v13 main_v17
  main_v18

def fn {F : FTy → Type} [FloatOps F] (main_arg0 : FVec F S18432x1024 .f32) (main_arg1 : FVec F S16x6x1024 .f32) (main_arg2 : FVec F S1024 .f32) (main_arg3 : FVec F S1024x2576 .f32) : IVec S_ 1 :=
  let main_v0 : FVec F S18432x1024 .f32 := Host.absf main_arg0
  let main_cst : FVec F S_ .f32 := constant S_ .f32 0x7F800000#32
  let main_v1 : FVec F S18432x1024 .f32 := broadcastInDim S18432x1024 ![] bcast_S_S18432x1024 main_cst
  let main_v2 : IVec S18432x1024 1 := cmpf .olt main_v0 main_v1
  let main_c : IVec S_ 1 := constantI S_ 1 1#1
  let main_v3 : IVec S_ 1 := (fun x v => Host.reduce IntOp.andi x v reducesTo_S18432x1024_S_d0_1 h_S_) main_v2 main_c
  let main_v4 : FVec F S16x6x1024 .f32 := Host.absf main_arg1
  let main_cst_0 : FVec F S_ .f32 := constant S_ .f32 0x7F800000#32
  let main_v5 : FVec F S16x6x1024 .f32 := broadcastInDim S16x6x1024 ![] bcast_S_S16x6x1024 main_cst_0
  let main_v6 : IVec S16x6x1024 1 := cmpf .olt main_v4 main_v5
  let main_c_1 : IVec S_ 1 := constantI S_ 1 1#1
  let main_v7 : IVec S_ 1 := (fun x v => Host.reduce IntOp.andi x v reducesTo_S16x6x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2576 .f32 := Host.absf main_arg3
  let main_cst_4 : FVec F S_ .f32 := constant S_ .f32 0x7F800000#32
  let main_v15 : FVec F S1024x2576 .f32 := broadcastInDim S1024x2576 ![] bcast_S_S1024x2576 main_cst_4
  let main_v16 : IVec S1024x2576 1 := cmpf .olt main_v14 main_v15
  fn_part1 (F := F) main_v13 main_v16
-- ==== Wattn.lean ====
abbrev S4 : Shape := ⟨1, ![4]⟩
abbrev S18432x384 : Shape := ⟨2, ![18432, 384]⟩
abbrev S18432x128 : Shape := ⟨2, ![18432, 128]⟩
abbrev S16384x256 : Shape := ⟨2, ![16384, 256]⟩
abbrev S128x384 : Shape := ⟨2, ![128, 384]⟩
abbrev S2048x384 : Shape := ⟨2, ![2048, 384]⟩
abbrev S2048x128 : Shape := ⟨2, ![2048, 128]⟩
abbrev S256x384 : Shape := ⟨2, ![256, 384]⟩
abbrev S256x128 : Shape := ⟨2, ![256, 128]⟩
abbrev S128x256 : Shape := ⟨2, ![128, 256]⟩
abbrev S384x128 : Shape := ⟨2, ![384, 128]⟩
abbrev S256x1 : Shape := ⟨2, ![256, 1]⟩
abbrev S128x64 : Shape := ⟨2, ![128, 64]⟩
abbrev S256x64 : Shape := ⟨2, ![256, 64]⟩
abbrev S384x64 : Shape := ⟨2, ![384, 64]⟩
abbrev S256x256 : Shape := ⟨2, ![256, 256]⟩
abbrev S1 : Shape := ⟨1, ![1]⟩
abbrev S256 : Shape := ⟨1, ![256]⟩

abbrev nBuf : Space → Nat
  | .hbm => 4
  | .vmem => 12
  | .smem => 1
  | _ => 0

abbrev bufTy : (tb : Table) → Fin (tcTables nBuf tb) → BufTy
  | .hbm, ⟨0, _⟩ => ⟨S4, .f32⟩
  | .hbm, ⟨1, _⟩ => ⟨S18432x384, .bf16⟩
  | .hbm, ⟨2, _⟩ => ⟨S18432x128, .bf16⟩
  | .hbm, ⟨3, _⟩ => ⟨S16384x256, .bf16⟩
  | .local _ .vmem, ⟨0, _⟩ => ⟨S128x384, .bf16⟩
  | .local _ .vmem, ⟨1, _⟩ => ⟨S128x384, .bf16⟩
  | .local _ .vmem, ⟨2, _⟩ => ⟨S2048x384, .bf16⟩
  | .local _ .vmem, ⟨3, _⟩ => ⟨S2048x384, .bf16⟩
  | .local _ .vmem, ⟨4, _⟩ => ⟨S2048x128, .bf16⟩
  | .local _ .vmem, ⟨5, _⟩ => ⟨S2048x128, .bf16⟩
  | .local _ .vmem, ⟨6, _⟩ => ⟨S256x384, .bf16⟩
  | .local _ .vmem, ⟨7, _⟩ => ⟨S256x384, .bf16⟩
  | .local _ .vmem, ⟨8, _⟩ => ⟨S256x128, .bf16⟩
  | .local _ .vmem, ⟨9, _⟩ => ⟨S256x128, .bf16⟩
  | .local _ .vmem, ⟨10, _⟩ => ⟨S128x256, .bf16⟩
  | .local _ .vmem, ⟨11, _⟩ => ⟨S128x256, .bf16⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c13_i32 : BitVec 32 := 13#32
  let c0_i32 : BitVec 32 := 0#32
  let arg1 : BitVec 32 := BitVec.ofNat 32 (i 1).val
  let c1_i32 : BitVec 32 := 1#32
  let v0 : BitVec 32 := Scalar.subi arg1 c1_i32
  let v1 : BitVec 32 := Scalar.maxsi c0_i32 v0
  let v2 : BitVec 32 := Scalar.minsi c13_i32 v1
  let c128_i32 : BitVec 32 := 128#32
  let v3 : BitVec 32 := Scalar.muli v2 c128_i32
  v3
def k0_off1 (i : grid0.Coords) : Fin 2 → Nat :=
  let c13_i32 : BitVec 32 := 13#32
  let c0_i32 : BitVec 32 := 0#32
  let arg1 : BitVec 32 := BitVec.ofNat 32 (i 1).val
  let c1_i32 : BitVec 32 := 1#32
  let v0 : BitVec 32 := Scalar.subi arg1 c1_i32
  let v1 : BitVec 32 := Scalar.maxsi c0_i32 v0
  let v2 : BitVec 32 := Scalar.minsi c13_i32 v1
  let c128_i32 : BitVec 32 := 128#32
  let v3 : BitVec 32 := Scalar.muli v2 c128_i32
  let v4 : BitVec 32 := v3
  let v6 : Index := Scalar.indexCast v4
  let c256 : Index := 256#32
  ![v6.toNat, 256]
def k0_off2 (i : grid0.Coords) : Fin 2 → Nat :=
  let c13_i32 : BitVec 32 := 13#32
  let c0_i32 : BitVec 32 := 0#32
  let arg1 : BitVec 32 := BitVec.ofNat 32 (i 1).val
  let c1_i32 : BitVec 32 := 1#32
  let v0 : BitVec 32 := Scalar.subi arg1 c1_i32
  let v1 : BitVec 32 := Scalar.maxsi c0_i32 v0
  let v2 : BitVec 32 := Scalar.minsi c13_i32 v1
  let c128_i32 : BitVec 32 := 128#32
  let v3 : BitVec 32 := Scalar.muli v2 c128_i32
  let v4 : BitVec 32 := v3
  let v8 : Index := Scalar.indexCast v4
  let c0_1 : Index := 0#32
  ![v8.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WattnIdeal.lean ====
variable {F : FTy → Type} [FloatOps F] [Named F]
def κ : String → Option EReal := fun
  | "mask" => some ⊥
  | _ => none
-- ==== WattnRefIdeal.lean ====
abbrev S4 : Shape := ⟨1, ![4]⟩
abbrev S18432x384 : Shape := ⟨2, ![18432, 384]⟩
abbrev S18432x128 : Shape := ⟨2, ![18432, 128]⟩
abbrev S16384x256 : Shape := ⟨2, ![16384, 256]⟩
abbrev S8x16x128x4x64 : Shape := ⟨5, ![8, 16, 128, 4, 64]⟩
abbrev S16384x128 : Shape := ⟨2, ![16384, 128]⟩
abbrev S8x2048x2x64 : Shape := ⟨4, ![8, 2048, 2, 64]⟩
abbrev S8x2048x2x2x64 : Shape := ⟨5, ![8, 2048, 2, 2, 64]⟩
abbrev S8x2048x4x64 : Shape := ⟨4, ![8, 2048, 4, 64]⟩
abbrev S2048x128 : Shape := ⟨2, ![2048, 128]⟩
abbrev S8x256x2x64 : Shape := ⟨4, ![8, 256, 2, 64]⟩
abbrev S8x256x2x2x64 : Shape := ⟨5, ![8, 256, 2, 2, 64]⟩
abbrev S8x256x4x64 : Shape := ⟨4, ![8, 256, 4, 64]⟩
abbrev S_ : Shape := ⟨0, ![]⟩
abbrev S8x2304x4x64 : Shape := ⟨4, ![8, 2304, 4, 64]⟩
abbrev S8x18x128x4x64 : Shape := ⟨5, ![8, 18, 128, 4, 64]⟩
abbrev S8x16x384x4x64 : Shape := ⟨5, ![8, 16, 384, 4, 64]⟩
abbrev S8x16x4x128x384 : Shape := ⟨5, ![8, 16, 4, 128, 384]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S1x16x1x128x384 : Shape := ⟨5, ![1, 16, 1, 128, 384]⟩
abbrev S8x4x256x16x128 : Shape := ⟨5, ![8, 4, 256, 16, 128]⟩
abbrev S8x16x4x128x256 : Shape := ⟨5, ![8, 16, 4, 128, 256]⟩
abbrev S1x1x4x1x1 : Shape := ⟨5, ![1, 1, 4, 1, 1]⟩
abbrev S8x16x4x128x1 : Shape := ⟨5, ![8, 16, 4, 128, 1]⟩
abbrev S8x16x4x128x641 : Shape := ⟨5, ![8, 16, 4, 128, 641]⟩
abbrev S8x16x4x128 : Shape := ⟨4, ![8, 16, 4, 128]⟩
abbrev S8x16x4x64x128 : Shape := ⟨5, ![8, 16, 4, 64, 128]⟩
abbrev S8x4x64x16x128 : Shape := ⟨5, ![8, 4, 64, 16, 128]⟩

abbrev nBuf : Space → Nat
  | .hbm => 118
  | .vmem => 0
  | .smem => 0
  | _ => 0

abbrev bufTy : (tb : Table) → Fin (tcTables nBuf tb) → BufTy
  | .hbm, ⟨0, _⟩ => ⟨S4, .f32⟩
  | .hbm, ⟨1, _⟩ => ⟨S18432x384, .bf16⟩
  | .hbm, ⟨2, _⟩ => ⟨S18432x128, .bf16⟩
  | .hbm, ⟨3, _⟩ => ⟨S18432x384, .f32⟩
  | .hbm, ⟨4, _⟩ => ⟨S18432x128, .f32⟩
  | .hbm, ⟨5, _⟩ => ⟨S16384x256, .f32⟩
  | .hbm, ⟨6, _⟩ => ⟨S8x16x128x4x64, .f32⟩
  | .hbm, ⟨7, _⟩ => ⟨S16384x128, .f32⟩
  | .hbm, ⟨8, _⟩ => ⟨S8x2048x2x64, .f32⟩
  | .hbm, ⟨9, _⟩ => ⟨S8x2048x2x2x64, .f32⟩
  | .hbm, ⟨10, _⟩ => ⟨S8x2048x4x64, .f32⟩
  | .hbm, ⟨11, _⟩ => ⟨S2048x128, .f32⟩
  | .hbm, ⟨12, _⟩ => ⟨S8x256x2x64, .f32⟩
  | .hbm, ⟨13, _⟩ => ⟨S8x256x2x2x64, .f32⟩
  | .hbm, ⟨14, _⟩ => ⟨S8x256x4x64, .f32⟩
  | .hbm, ⟨15, _⟩ => ⟨S16384x128, .f32⟩
  | .hbm, ⟨16, _⟩ => ⟨S8x2048x2x64, .f32⟩
  | .hbm, ⟨17, _⟩ => ⟨S8x2048x2x2x64, .f32⟩
  | .hbm, ⟨18, _⟩ => ⟨S8x2048x4x64, .f32⟩
  | .hbm, ⟨19, _⟩ => ⟨S2048x128, .f32⟩
  | .hbm, ⟨20, _⟩ => ⟨S8x256x2x64, .f32⟩
  | .hbm, ⟨21, _⟩ => ⟨S8x256x2x2x64, .f32⟩
  | .hbm, ⟨22, _⟩ => ⟨S8x256x4x64, .f32⟩
  | .hbm, ⟨23, _⟩ => ⟨S_, .i32⟩
  | .hbm, ⟨24, _⟩ => ⟨S_, .f32⟩
  | .hbm, ⟨25, _⟩ => ⟨S8x2304x4x64, .f32⟩
  | .hbm, ⟨26, _⟩ => ⟨S8x18x128x4x64, .f32⟩
  | .hbm, ⟨27, _⟩ => ⟨S_, .i32⟩
  | .hbm, ⟨28, _⟩ => ⟨S_, .f32⟩
  | .hbm, ⟨29, _⟩ => ⟨S8x2304x4x64, .f32⟩
  | .hbm, ⟨30, _⟩ => ⟨S8x18x128x4x64, .f32⟩
  | .hbm, ⟨31, _⟩ => ⟨S8x16x128x4x64, .f32⟩
  | .hbm, ⟨32, _⟩ => ⟨S8x16x128x4x64, .f32⟩
  | .hbm, ⟨33, _⟩ => ⟨S8x16x128x4x64, .f32⟩
  | .hbm, ⟨34, _⟩ => ⟨S8x16x384x4x64, .f32⟩
  | .hbm, ⟨35, _⟩ => ⟨S8x16x128x4x64, .f32⟩
  | .hbm, ⟨36, _⟩ => ⟨S8x16x128x4x64, .f32⟩
  | .hbm, ⟨37, _⟩ => ⟨S8x16x128x4x64, .f32⟩
  | .hbm, ⟨38, _⟩ => ⟨S8x16x384x4x64, .f32⟩
  | .hbm, ⟨39, _⟩ => ⟨S8x16x4x128x384, .f32⟩
  | .hbm, ⟨40, _⟩ => ⟨S16, .i32⟩
  | .hbm, ⟨41, _⟩ => ⟨S16x1, .i32⟩
  | .hbm, ⟨42, _⟩ => ⟨S_, .i32⟩
  | .hbm, ⟨43, _⟩ => ⟨S16x1, .i32⟩
  | .hbm, ⟨44, _⟩ => ⟨S16x1, .i32⟩
  | .hbm, ⟨45, _⟩ => ⟨S128, .i32⟩
  | .hbm, ⟨46, _⟩ => ⟨S1x128, .i32⟩
  | .hbm, ⟨47, _⟩ => ⟨S16x128, .i32⟩
  | .hbm, ⟨48, _⟩ => ⟨S16x128, .i32⟩
  | .hbm, ⟨49, _⟩ => ⟨S16x128, .i32⟩
  | .hbm, ⟨50, _⟩ => ⟨S16, .i32⟩
  | .hbm, ⟨51, _⟩ => ⟨S16x1, .i32⟩
  | .hbm, ⟨52, _⟩ => ⟨S_, .i32⟩
  | .hbm, ⟨53, _⟩ => ⟨S16x1, .i32⟩
  | .hbm, ⟨54, _⟩ => ⟨S16x1, .i32⟩
  | .hbm, ⟨55, _⟩ => ⟨S_, .i32⟩
  | .hbm, ⟨56, _⟩ => ⟨S16x1, .i32⟩
  | .hbm, ⟨57, _⟩ => ⟨S16x1, .i32⟩
  | .hbm, ⟨58, _⟩ => ⟨S384, .i32⟩
  | .hbm, ⟨59, _⟩ => ⟨S1x384, .i32⟩
  | .hbm, ⟨60, _⟩ => ⟨S16x384, .i32⟩
  | .hbm, ⟨61, _⟩ => ⟨S16x384, .i32⟩
  | .hbm, ⟨62, _⟩ => ⟨S16x384, .i32⟩
  | .hbm, ⟨63, _⟩ => ⟨S16x128x1, .i32⟩
  | .hbm, ⟨64, _⟩ => ⟨S16x1x384, .i32⟩
  | .hbm, ⟨65, _⟩ => ⟨S16x128x384, .i32⟩
  | .hbm, ⟨66, _⟩ => ⟨S16x128x384, .i32⟩
  | .hbm, ⟨67, _⟩ => ⟨S16x128x384, .i32⟩
  | .hbm, ⟨68, _⟩ => ⟨S16x128x384, .i32⟩
  | .hbm, ⟨69, _⟩ => ⟨S_, .i32⟩
  | .hbm, ⟨70, _⟩ => ⟨S16x128x384, .i32⟩
  | .hbm, ⟨71, _⟩ => ⟨S16x128x384, .i1⟩
  | .hbm, ⟨72, _⟩ => ⟨S_, .i32⟩
  | .hbm, ⟨73, _⟩ => ⟨S16x384, .i32⟩
  | .hbm, ⟨74, _⟩ => ⟨S16x384, .i1⟩
  | .hbm, ⟨75, _⟩ => ⟨S16x1x384, .i1⟩
  | .hbm, ⟨76, _⟩ => ⟨S16x128x384, .i1⟩
  | .hbm, ⟨77, _⟩ => ⟨S16x128x384, .i1⟩
  | .hbm, ⟨78, _⟩ => ⟨S_, .i32⟩
  | .hbm, ⟨79, _⟩ => ⟨S16x384, .i32⟩
  | .hbm, ⟨80, _⟩ => ⟨S16x384, .i1⟩
  | .hbm, ⟨81, _⟩ => ⟨S16x1x384, .i1⟩
  | .hbm, ⟨82, _⟩ => ⟨S16x128x384, .i1⟩
  | .hbm, ⟨83, _⟩ => ⟨S16x128x384, .i1⟩
  | .hbm, ⟨84, _⟩ => ⟨S1x16x1x128x384, .i1⟩
  | .hbm, ⟨85, _⟩ => ⟨S_, .f32⟩
  | .hbm, ⟨86, _⟩ => ⟨S_, .f32⟩
  | .hbm, ⟨87, _⟩ => ⟨S8x16x4x128x384, .i1⟩
  | .hbm, ⟨88, _⟩ => ⟨S8x16x4x128x384, .f32⟩
  | .hbm, ⟨89, _⟩ => ⟨S8x16x4x128x384, .f32⟩
  | .hbm, ⟨90, _⟩ => ⟨S8x4x256x16x128, .f32⟩
  | .hbm, ⟨91, _⟩ => ⟨S8x16x4x128x256, .f32⟩
  | .hbm, ⟨92, _⟩ => ⟨S1x1x4x1x1, .f32⟩
  | .hbm, ⟨93, _⟩ => ⟨S8x16x4x128x1, .f32⟩
  | .hbm, ⟨94, _⟩ => ⟨S8x16x4x128x641, .f32⟩
  | .hbm, ⟨95, _⟩ => ⟨S_, .f32⟩
  | .hbm, ⟨96, _⟩ => ⟨S8x16x4x128, .f32⟩
  | .hbm, ⟨97, _⟩ => ⟨S_, .f32⟩
  | .hbm, ⟨98, _⟩ => ⟨S8x16x4x128, .f32⟩
  | .hbm, ⟨99, _⟩ => ⟨S8x16x4x128, .f32⟩
  | .hbm, ⟨100, _⟩ => ⟨S8x16x4x128x1, .f32⟩
  | .hbm, ⟨101, _⟩ => ⟨S8x16x4x128x641, .f32⟩
  | .hbm, ⟨102, _⟩ => ⟨S8x16x4x128x641, .f32⟩
  | .hbm, ⟨103, _⟩ => ⟨S8x16x4x128x641, .f32⟩
  | .hbm, ⟨104, _⟩ => ⟨S_, .f32⟩
  | .hbm, ⟨105, _⟩ => ⟨S8x16x4x128, .f32⟩
  | .hbm, ⟨106, _⟩ => ⟨S8x16x4x128x1, .f32⟩
  | .hbm, ⟨107, _⟩ => ⟨S8x16x4x128x641, .f32⟩
  | .hbm, ⟨108, _⟩ => ⟨S8x16x4x128x641, .f32⟩
  | .hbm, ⟨109, _⟩ => ⟨S8x16x4x128x384, .f32⟩
  | .hbm, ⟨110, _⟩ => ⟨S8x16x4x128x256, .f32⟩
  | .hbm, ⟨111, _⟩ => ⟨S8x16x4x64x128, .f32⟩
  | .hbm, ⟨112, _⟩ => ⟨S8x16x128x4x64, .f32⟩
  | .hbm, ⟨113, _⟩ => ⟨S8x4x64x16x128, .f32⟩
  | .hbm, ⟨114, _⟩ => ⟨S8x16x128x4x64, .f32⟩
  | .hbm, ⟨115, _⟩ => ⟨S8x16x128x4x64, .f32⟩
  | .hbm, ⟨116, _⟩ => ⟨S16384x256, .f32⟩
  | .hbm, ⟨117, _⟩ => ⟨S16384x256, .bf16⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_call0_v0 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_2 : Ref sig .tc := ⟨.hbm, 52, rfl⟩
abbrev main_v44 : Ref sig .tc := ⟨.hbm, 53, rfl⟩
abbrev main_v45 : Ref sig .tc := ⟨.hbm, 54, rfl⟩
abbrev main_c_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c_4 : Ref sig .tc := ⟨.hbm, 69, rfl⟩
abbrev main_v59 : Ref sig .tc := ⟨.hbm, 70, rfl⟩
abbrev main_v60 : Ref sig .tc := ⟨.hbm, 71, rfl⟩
abbrev main_c_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_v78 : Ref sig .tc := ⟨.hbm, 96, rfl⟩
abbrev main_cst_8 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_9 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩

abbrev nD : Nat := 1
abbrev τ : Topo := Topo.v7x

variable {F : FTy → Type} [FloatOps F]
-- ==== Moe.lean ====
abbrev S18432x1024 : Shape := ⟨2, ![18432, 1024]⟩
abbrev S18432x128 : Shape := ⟨2, ![18432, 128]⟩
abbrev S16x6x1024 : Shape := ⟨3, ![16, 6, 1024]⟩
abbrev S4x8x1024x256 : Shape := ⟨4, ![4, 8, 1024, 256]⟩
abbrev S4x8x256x1024 : Shape := ⟨4, ![4, 8, 256, 1024]⟩
abbrev S32x1024x256 : Shape := ⟨3, ![32, 1024, 256]⟩
abbrev S32x256x1024 : Shape := ⟨3, ![32, 256, 1024]⟩
abbrev S512x1024 : Shape := ⟨2, ![512, 1024]⟩
abbrev S512x128 : Shape := ⟨2, ![512, 128]⟩
abbrev S1x6x1024 : Shape := ⟨3, ![1, 6, 1024]⟩
abbrev S1x1024x256 : Shape := ⟨3, ![1, 1024, 256]⟩
abbrev S1x256x1024 : Shape := ⟨3, ![1, 256, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S6x1024 : Shape := ⟨2, ![6, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S18432x1024, .f32⟩
  | .hbm, ⟨1, _⟩ => ⟨S18432x1024, .bf16⟩
  | .hbm, ⟨2, _⟩ => ⟨S18432x128, .f32⟩
  | .hbm, ⟨3, _⟩ => ⟨S16x6x1024, .f32⟩
  | .hbm, ⟨4, _⟩ => ⟨S4x8x1024x256, .f32⟩
  | .hbm, ⟨5, _⟩ => ⟨S4x8x1024x256, .f32⟩
  | .hbm, ⟨6, _⟩ => ⟨S4x8x256x1024, .f32⟩
  | .hbm, ⟨7, _⟩ => ⟨S32x1024x256, .f32⟩
  | .hbm, ⟨8, _⟩ => ⟨S32x1024x256, .f32⟩
  | .hbm, ⟨9, _⟩ => ⟨S32x256x1024, .f32⟩
  | .hbm, ⟨10, _⟩ => ⟨S18432x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x256x1024, .f32⟩
  | .local _ .vmem, ⟨13, _⟩ => ⟨S1x256x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![36, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S18432x1024 : Shape := ⟨2, ![18432, 1024]⟩
abbrev S18432x128 : Shape := ⟨2, ![18432, 128]⟩
abbrev S16x6x1024 : Shape := ⟨3, ![16, 6, 1024]⟩
abbrev S4x8x1024x256 : Shape := ⟨4, ![4, 8, 1024, 256]⟩
abbrev S4x8x256x1024 : Shape := ⟨4, ![4, 8, 256, 1024]⟩
abbrev S_ : Shape := ⟨0, ![]⟩
abbrev S18432x8 : Shape := ⟨2, ![18432, 8]⟩
abbrev S1x8x1024x256 : Shape := ⟨4, ![1, 8, 1024, 256]⟩
abbrev S8x1024x256 : Shape := ⟨3, ![8, 1024, 256]⟩
abbrev S18432x8x256 : Shape := ⟨3, ![18432, 8, 256]⟩
abbrev S18432x8x1 : Shape := ⟨3, ![18432, 8, 1]⟩
abbrev S1x8x256x1024 : Shape := ⟨4, ![1, 8, 256, 1024]⟩
abbrev S8x256x1024 : Shape := ⟨3, ![8, 256, 1024]⟩
abbrev S16384x1024 : Shape := ⟨2, ![16384, 1024]⟩
abbrev S8x2048x1024 : Shape := ⟨3, ![8, 2048, 1024]⟩
abbrev S8x1x1024 : Shape := ⟨3, ![8, 1, 1024]⟩
abbrev S8x1024 : Shape := ⟨2, ![8, 1024]⟩
abbrev S2048x1024 : Shape := ⟨2, ![2048, 1024]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 126
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S18432x1024, .bf16⟩
  | .hbm, ⟨2, _⟩ => ⟨S18432x128, .f32⟩
  | .hbm, ⟨3, _⟩ => ⟨S16x6x1024, .f32⟩
  | .hbm, ⟨4, _⟩ => ⟨S4x8x1024x256, .f32⟩
  | .hbm, ⟨5, _⟩ => ⟨S4x8x1024x256, .f32⟩
  | .hbm, ⟨6, _⟩ => ⟨S4x8x256x1024, .f32⟩
  | .hbm, ⟨7, _⟩ => ⟨S18432x1024, .f32⟩
  | .hbm, ⟨8, _⟩ => ⟨S_, .f32⟩
  | .hbm, ⟨9, _⟩ => ⟨S18432x1024, .f32⟩
  | .hbm, ⟨10, _⟩ => ⟨S18432x8, .f32⟩
  | .hbm, ⟨11, _⟩ => ⟨S1x8x1024x256, .f32⟩
  | .hbm, ⟨12, _⟩ => ⟨S8x1024x256, .f32⟩
  | .hbm, ⟨13, _⟩ => ⟨S18432x8x256, .f32⟩
  | .hbm, ⟨14, _⟩ => ⟨S18432x8x256, .f32⟩
  | .hbm, ⟨15, _⟩ => ⟨S18432x8x256, .f32⟩
  | .hbm, ⟨16, _⟩ => ⟨S_, .f32⟩
  | .hbm, ⟨17, _⟩ => ⟨S18432x8x256, .f32⟩
  | .hbm, ⟨18, _⟩ => ⟨S18432x8x256, .f32⟩
  | .hbm, ⟨19, _⟩ => ⟨S_, .f32⟩
  | .hbm, ⟨20, _⟩ => ⟨S18432x8x256, .f32⟩
  | .hbm, ⟨21, _⟩ => ⟨S18432x8x256, .f32⟩
  | .hbm, ⟨22, _⟩ => ⟨S18432x8x256, .f32⟩
  | .hbm, ⟨23, _⟩ => ⟨S1x8x1024x256, .f32⟩
  | .hbm, ⟨24, _⟩ => ⟨S8x1024x256, .f32⟩
  | .hbm, ⟨25, _⟩ => ⟨S18432x8x256, .f32⟩
  | .hbm, ⟨26, _⟩ => ⟨S18432x8x256, .f32⟩
  | .hbm, ⟨27, _⟩ => ⟨S18432x8x1, .f32⟩
  | .hbm, ⟨28, _⟩ => ⟨S18432x8x256, .f32⟩
  | .hbm, ⟨29, _⟩ => ⟨S18432x8x256, .f32⟩
  | .hbm, ⟨30, _⟩ => ⟨S1x8x256x1024, .f32⟩
  | .hbm, ⟨31, _⟩ => ⟨S8x256x1024, .f32⟩
  | .hbm, ⟨32, _⟩ => ⟨S18432x1024, .f32⟩
  | .hbm, ⟨33, _⟩ => ⟨S18432x1024, .f32⟩
  | .hbm, ⟨34, _⟩ => ⟨S18432x8, .f32⟩
  | .hbm, ⟨35, _⟩ => ⟨S1x8x1024x256, .f32⟩
  | .hbm, ⟨36, _⟩ => ⟨S8x1024x256, .f32⟩
  | .hbm, ⟨37, _⟩ => ⟨S18432x8x256, .f32⟩
  | .hbm, ⟨38, _⟩ => ⟨S18432x8x256, .f32⟩
  | .hbm, ⟨39, _⟩ => ⟨S18432x8x256, .f32⟩
  | .hbm, ⟨40, _⟩ => ⟨S_, .f32⟩
  | .hbm, ⟨41, _⟩ => ⟨S18432x8x256, .f32⟩
  | .hbm, ⟨42, _⟩ => ⟨S18432x8x256, .f32⟩
  | .hbm, ⟨43, _⟩ => ⟨S_, .f32⟩
  | .hbm, ⟨44, _⟩ => ⟨S18432x8x256, .f32⟩
  | .hbm, ⟨45, _⟩ => ⟨S18432x8x256, .f32⟩
  | .hbm, ⟨46, _⟩ => ⟨S18432x8x256, .f32⟩
  | .hbm, ⟨47, _⟩ => ⟨S1x8x1024x256, .f32⟩
  | .hbm, ⟨48, _⟩ => ⟨S8x1024x256, .f32⟩
  | .hbm, ⟨49, _⟩ => ⟨S18432x8x256, .f32⟩
  | .hbm, ⟨50, _⟩ => ⟨S18432x8x256, .f32⟩
  | .hbm, ⟨51, _⟩ => ⟨S18432x8x1, .f32⟩
  | .hbm, ⟨52, _⟩ => ⟨S18432x8x256, .f32⟩
  | .hbm, ⟨53, _⟩ => ⟨S18432x8x256, .f32⟩
  | .hbm, ⟨54, _⟩ => ⟨S1x8x256x1024, .f32⟩
  | .hbm, ⟨55, _⟩ => ⟨S8x256x1024, .f32⟩
  | .hbm, ⟨56, _⟩ => ⟨S18432x1024, .f32⟩
  | .hbm, ⟨57, _⟩ => ⟨S18432x1024, .f32⟩
  | .hbm, ⟨58, _⟩ => ⟨S18432x8, .f32⟩
  | .hbm, ⟨59, _⟩ => ⟨S1x8x1024x256, .f32⟩
  | .hbm, ⟨60, _⟩ => ⟨S8x1024x256, .f32⟩
  | .hbm, ⟨61, _⟩ => ⟨S18432x8x256, .f32⟩
  | .hbm, ⟨62, _⟩ => ⟨S18432x8x256, .f32⟩
  | .hbm, ⟨63, _⟩ => ⟨S18432x8x256, .f32⟩
  | .hbm, ⟨64, _⟩ => ⟨S_, .f32⟩
  | .hbm, ⟨65, _⟩ => ⟨S18432x8x256, .f32⟩
  | .hbm, ⟨66, _⟩ => ⟨S18432x8x256, .f32⟩
  | .hbm, ⟨67, _⟩ => ⟨S_, .f32⟩
  | .hbm, ⟨68, _⟩ => ⟨S18432x8x256, .f32⟩
  | .hbm, ⟨69, _⟩ => ⟨S18432x8x256, .f32⟩
  | .hbm, ⟨70, _⟩ => ⟨S18432x8x256, .f32⟩
  | .hbm, ⟨71, _⟩ => ⟨S1x8x1024x256, .f32⟩
  | .hbm, ⟨72, _⟩ => ⟨S8x1024x256, .f32⟩
  | .hbm, ⟨73, _⟩ => ⟨S18432x8x256, .f32⟩
  | .hbm, ⟨74, _⟩ => ⟨S18432x8x256, .f32⟩
  | .hbm, ⟨75, _⟩ => ⟨S18432x8x1, .f32⟩
  | .hbm, ⟨76, _⟩ => ⟨S18432x8x256, .f32⟩
  | .hbm, ⟨77, _⟩ => ⟨S18432x8x256, .f32⟩
  | .hbm, ⟨78, _⟩ => ⟨S1x8x256x1024, .f32⟩
  | .hbm, ⟨79, _⟩ => ⟨S8x256x1024, .f32⟩
  | .hbm, ⟨80, _⟩ => ⟨S18432x1024, .f32⟩
  | .hbm, ⟨81, _⟩ => ⟨S18432x1024, .f32⟩
  | .hbm, ⟨82, _⟩ => ⟨S18432x8, .f32⟩
  | .hbm, ⟨83, _⟩ => ⟨S1x8x1024x256, .f32⟩
  | .hbm, ⟨84, _⟩ => ⟨S8x1024x256, .f32⟩
  | .hbm, ⟨85, _⟩ => ⟨S18432x8x256, .f32⟩
  | .hbm, ⟨86, _⟩ => ⟨S18432x8x256, .f32⟩
  | .hbm, ⟨87, _⟩ => ⟨S18432x8x256, .f32⟩
  | .hbm, ⟨88, _⟩ => ⟨S_, .f32⟩
  | .hbm, ⟨89, _⟩ => ⟨S18432x8x256, .f32⟩
  | .hbm, ⟨90, _⟩ => ⟨S18432x8x256, .f32⟩
  | .hbm, ⟨91, _⟩ => ⟨S_, .f32⟩
  | .hbm, ⟨92, _⟩ => ⟨S18432x8x256, .f32⟩
  | .hbm, ⟨93, _⟩ => ⟨S18432x8x256, .f32⟩
  | .hbm, ⟨94, _⟩ => ⟨S18432x8x256, .f32⟩
  | .hbm, ⟨95, _⟩ => ⟨S1x8x1024x256, .f32⟩
  | .hbm, ⟨96, _⟩ => ⟨S8x1024x256, .f32⟩
  | .hbm, ⟨97, _⟩ => ⟨S18432x8x256, .f32⟩
  | .hbm, ⟨98, _⟩ => ⟨S18432x8x256, .f32⟩
  | .hbm, ⟨99, _⟩ => ⟨S18432x8x1, .f32⟩
  | .hbm, ⟨100, _⟩ => ⟨S18432x8x256, .f32⟩
  | .hbm, ⟨101, _⟩ => ⟨S18432x8x256, .f32⟩
  | .hbm, ⟨102, _⟩ => ⟨S1x8x256x1024, .f32⟩
  | .hbm, ⟨103, _⟩ => ⟨S8x256x1024, .f32⟩
  | .hbm, ⟨104, _⟩ => ⟨S18432x1024, .f32⟩
  | .hbm, ⟨105, _⟩ => ⟨S18432x1024, .f32⟩
  | .hbm, ⟨106, _⟩ => ⟨S16384x1024, .f32⟩
  | .hbm, ⟨107, _⟩ => ⟨S8x2048x1024, .f32⟩
  | .hbm, ⟨108, _⟩ => ⟨S8x1x1024, .f32⟩
  | .hbm, ⟨109, _⟩ => ⟨S8x1024, .f32⟩
  | .hbm, ⟨110, _⟩ => ⟨S8x1x1024, .f32⟩
  | .hbm, ⟨111, _⟩ => ⟨S16384x1024, .f32⟩
  | .hbm, ⟨112, _⟩ => ⟨S8x2048x1024, .f32⟩
  | .hbm, ⟨113, _⟩ => ⟨S8x2048x1024, .f32⟩
  | .hbm, ⟨114, _⟩ => ⟨S8x2048x1024, .f32⟩
  | .hbm, ⟨115, _⟩ => ⟨S8x2048x1024, .f32⟩
  | .hbm, ⟨116, _⟩ => ⟨S2048x1024, .f32⟩
  | .hbm, ⟨117, _⟩ => ⟨S1x1x1024, .f32⟩
  | .hbm, ⟨118, _⟩ => ⟨S1024, .f32⟩
  | .hbm, ⟨119, _⟩ => ⟨S2048x1024, .f32⟩
  | .hbm, ⟨120, _⟩ => ⟨S1x1024, .f32⟩
  | .hbm, ⟨121, _⟩ => ⟨S2048x1024, .f32⟩
  | .hbm, ⟨122, _⟩ => ⟨S2048x1024, .f32⟩
  | .hbm, ⟨123, _⟩ => ⟨S2048x1024, .f32⟩
  | .hbm, ⟨124, _⟩ => ⟨S16384x1024, .f32⟩
  | .hbm, ⟨125, _⟩ => ⟨S18432x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩

abbrev nD : Nat := 1
abbrev τ : Topo := Topo.v7x

variable {F : FTy → Type} [FloatOps F]
-- ==== Norm.lean ====
abbrev S18432x1024 : Shape := ⟨2, ![18432, 1024]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S18432x1024 : Shape := ⟨2, ![18432, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Inproj.lean ====
abbrev S18432x1024 : Shape := ⟨2, ![18432, 1024]⟩
abbrev S16x6x1024 : Shape := ⟨3, ![16, 6, 1024]⟩
abbrev S1024 : Shape := ⟨1, ![1024]⟩
abbrev S1024x2576 : Shape := ⟨2, ![1024, 2576]⟩
abbrev S256 : Shape := ⟨1, ![256]⟩
abbrev S128 : Shape := ⟨1, ![128]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S384 : Shape := ⟨1, ![384]⟩
abbrev S1x2048x1x64 : Shape := ⟨4, ![1, 2048, 1, 64]⟩
abbrev S1x2048x6x64 : Shape := ⟨4, ![1, 2048, 6, 64]⟩
abbrev S2048x384 : Shape := ⟨2, ![2048, 384]⟩
abbrev S1x384 : Shape := ⟨2, ![1, 384]⟩
abbrev S512x384 : Shape := ⟨2, ![512, 384]⟩
abbrev S2560x384 : Shape := ⟨2, ![2560, 384]⟩
abbrev S1x1024 : Shape := ⟨2, ![1, 1024]⟩
abbrev S1024x256 : Shape := ⟨2, ![1024, 256]⟩
abbrev S1024x128 : Shape := ⟨2, ![1024, 128]⟩
abbrev S1024x512 : Shape := ⟨2, ![1024, 512]⟩
abbrev S1024x768 : Shape := ⟨2, ![1024, 768]⟩
abbrev S1024x16 : Shape := ⟨2, ![1024, 16]⟩
abbrev S512 : Shape := ⟨1, ![512]⟩
abbrev S768 : Shape := ⟨1, ![768]⟩
abbrev S1024x120 : Shape := ⟨2, ![1024, 120]⟩
abbrev S256x1 : Shape := ⟨2, ![256, 1]⟩
abbrev S1x256 : Shape := ⟨2, ![1, 256]⟩
abbrev S128x1 : Shape := ⟨2, ![128, 1]⟩
abbrev S1x128 : Shape := ⟨2, ![1, 128]⟩
abbrev S1x768 : Shape := ⟨2, ![1, 768]⟩
abbrev S1024x8 : Shape := ⟨2, ![1024, 8]⟩
abbrev S1024x3200 : Shape := ⟨2, ![1024, 3200]⟩
abbrev S18432x384 : Shape := ⟨2, ![18432, 384]⟩
abbrev S18432x128 : Shape := ⟨2, ![18432, 128]⟩
abbrev S18432x512 : Shape := ⟨2, ![18432, 512]⟩
abbrev S18432x768 : Shape := ⟨2, ![18432, 768]⟩
abbrev S18432x256 : Shape := ⟨2, ![18432, 256]⟩
abbrev S512x1024 : Shape := ⟨2, ![512, 1024]⟩
abbrev S1x6x1024 : Shape := ⟨3, ![1, 6, 1024]⟩
abbrev S512x128 : Shape := ⟨2, ![512, 128]⟩
abbrev S512x512 : Shape := ⟨2, ![512, 512]⟩
abbrev S512x768 : Shape := ⟨2, ![512, 768]⟩
abbrev S512x256 : Shape := ⟨2, ![512, 256]⟩
abbrev S6x1024 : Shape := ⟨2, ![6, 1024]⟩
abbrev S512x1 : Shape := ⟨2, ![512, 1]⟩
abbrev S1024x384 : Shape := ⟨2, ![1024, 384]⟩

abbrev nBuf : Space → Nat
  | .hbm => 150
  | .vmem => 22
  | .smem => 0
  | _ => 0

abbrev hbmTy0_0 (i : Nat) : BufTy := match i % 128 with
  | 0 => ⟨S18432x1024, .f32⟩
  | 1 => ⟨S16x6x1024, .f32⟩
  | 2 => ⟨S1024, .f32⟩
  | 3 => ⟨S1024x2576, .f32⟩
  | 4 => ⟨S256, .i32⟩
  | 5 => ⟨S256, .i1⟩
  | 6 => ⟨S256, .f32⟩
  | 7 => ⟨S128, .i32⟩
  | 8 => ⟨S128, .i1⟩
  | 9 => ⟨S128, .f32⟩
  | 10 => ⟨S2048, .i32⟩
  | 11 => ⟨S_, .i32⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S2048, .i32⟩
  | 20 => ⟨S2048, .i32⟩
  | 21 => ⟨S_, .i32⟩
  | 22 => ⟨S2048, .i32⟩
  | 23 => ⟨S2048, .i1⟩
  | 24 => ⟨S2048, .i1⟩
  | 25 => ⟨S_, .i32⟩
  | 26 => ⟨S2048, .i32⟩
  | 27 => ⟨S2048, .i32⟩
  | 28 => ⟨S2048, .i32⟩
  | 29 => ⟨S2048, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i1⟩
  | 44 => ⟨S_, .i32⟩
  | 45 => ⟨S_, .i1⟩
  | 46 => ⟨S2048, .i1⟩
  | 47 => ⟨S2048, .i1⟩
  | 48 => ⟨S2048, .i1⟩
  | 49 => ⟨S2048, .i32⟩
  | 50 => ⟨S2048, .i32⟩
  | 51 => ⟨S2048, .i32⟩
  | 52 => ⟨S2048, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S2048x1, .f32⟩
  | 70 => ⟨S1x16, .f32⟩
  | 71 => ⟨S2048x16, .f32⟩
  | 72 => ⟨S2048x16, .f32⟩
  | 73 => ⟨S2048x16, .f32⟩
  | 74 => ⟨S2048x1, .f32⟩
  | 75 => ⟨S1x16, .f32⟩
  | 76 => ⟨S2048x16, .f32⟩
  | 77 => ⟨S2048x16, .f32⟩
  | 78 => ⟨S2048x16, .f32⟩
  | 79 => ⟨S2048x64, .f32⟩
  | 80 => ⟨S2048x64, .f32⟩
  | 81 => ⟨S2048x64, .f32⟩
  | 82 => ⟨S_, .f32⟩
  | 83 => ⟨S256, .f32⟩
  | 84 => ⟨S_, .f32⟩
  | 85 => ⟨S128, .f32⟩
  | 86 => ⟨S384, .f32⟩
  | 87 => ⟨S1x2048x1x64, .f32⟩
  | 88 => ⟨S1x2048x6x64, .f32⟩
  | 89 => ⟨S2048x384, .f32⟩
  | 90 => ⟨S1x384, .f32⟩
  | 91 => ⟨S2048x384, .f32⟩
  | 92 => ⟨S2048x384, .f32⟩
  | 93 => ⟨S1x2048x1x64, .f32⟩
  | 94 => ⟨S1x2048x6x64, .f32⟩
  | 95 => ⟨S2048x384, .f32⟩
  | 96 => ⟨S1x384, .f32⟩
  | 97 => ⟨S2048x384, .f32⟩
  | 98 => ⟨S2048x384, .f32⟩
  | 99 => ⟨S512x384, .f32⟩
  | 100 => ⟨S2560x384, .f32⟩
  | 101 => ⟨S_, .f32⟩
  | 102 => ⟨S512x384, .f32⟩
  | 103 => ⟨S2560x384, .f32⟩
  | 104 => ⟨S1x1024, .f32⟩
  | 105 => ⟨S1024x256, .f32⟩
  | 106 => ⟨S1024x128, .f32⟩
  | 107 => ⟨S1024x128, .f32⟩
  | 108 => ⟨S1024x512, .f32⟩
  | 109 => ⟨S1024x768, .f32⟩
  | 110 => ⟨S1024x16, .f32⟩
  | 111 => ⟨S1024x768, .f32⟩
  | 112 => ⟨S_, .f32⟩
  | 113 => ⟨S256, .f32⟩
  | 114 => ⟨S_, .f32⟩
  | 115 => ⟨S512, .f32⟩
  | 116 => ⟨S768, .f32⟩
  | 117 => ⟨S_, .f32⟩
  | 118 => ⟨S1024x120, .f32⟩
  | 119 => ⟨S_, .i32⟩
  | 120 => ⟨S256, .i32⟩
  | 121 => ⟨S256, .i32⟩
  | 122 => ⟨S256, .i32⟩
  | 123 => ⟨S256x1, .i32⟩
  | 124 => ⟨S1024x256, .f32⟩
  | 125 => ⟨S1x256, .f32⟩
  | 126 => ⟨S1024x256, .f32⟩
  | 127 => ⟨S1024x256, .f32⟩
  | _ => ⟨S18432x1024, .f32⟩

abbrev hbmTy0_1 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S1024x128, .f32⟩
  | 6 => ⟨S1x128, .f32⟩
  | 7 => ⟨S1024x128, .f32⟩
  | 8 => ⟨S1024x128, .f32⟩
  | 9 => ⟨S1x768, .f32⟩
  | 10 => ⟨S1024x768, .f32⟩
  | 11 => ⟨S1024x768, .f32⟩
  | 12 => ⟨S1024x8, .f32⟩
  | 13 => ⟨S1024x8, .f32⟩
  | 14 => ⟨S1024x3200, .f32⟩
  | 15 => ⟨S1024x3200, .bf16⟩
  | 16 => ⟨S18432x384, .bf16⟩
  | 17 => ⟨S18432x128, .bf16⟩
  | 18 => ⟨S18432x512, .f32⟩
  | 19 => ⟨S18432x768, .f32⟩
  | 20 => ⟨S18432x768, .bf16⟩
  | 21 => ⟨S18432x256, .f32⟩
  | _ => ⟨S18432x1024, .f32⟩

abbrev hbmTy (i : Nat) : BufTy := match i / 128 with
  | 0 => hbmTy0_0 i
  | 1 => hbmTy0_1 i
  | _ => ⟨S18432x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3200, .bf16⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .bf16⟩
  | .local _ .vmem, ⟨11, _⟩ => ⟨S512x384, .bf16⟩
  | .local _ .vmem, ⟨12, _⟩ => ⟨S512x128, .bf16⟩
  | .local _ .vmem, ⟨13, _⟩ => ⟨S512x128, .bf16⟩
  | .local _ .vmem, ⟨14, _⟩ => ⟨S512x512, .f32⟩
  | .local _ .vmem, ⟨15, _⟩ => ⟨S512x512, .f32⟩
  | .local _ .vmem, ⟨16, _⟩ => ⟨S512x768, .f32⟩
  | .local _ .vmem, ⟨17, _⟩ => ⟨S512x768, .f32⟩
  | .local _ .vmem, ⟨18, _⟩ => ⟨S512x768, .bf16⟩
  | .local _ .vmem, ⟨19, _⟩ => ⟨S512x768, .bf16⟩
  | .local _ .vmem, ⟨20, _⟩ => ⟨S512x256, .f32⟩
  | .local _ .vmem, ⟨21, _⟩ => ⟨S512x256, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_c_1 : Ref sig .tc := ⟨.hbm, 7, rfl⟩
abbrev main_c_2 : Ref sig .tc := ⟨.hbm, 8, rfl⟩
abbrev main_cst_3 : Ref sig .tc := ⟨.hbm, 9, rfl⟩
abbrev main_v0 : Ref sig .tc := ⟨.hbm, 10, rfl⟩
abbrev main_c_4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_c_5 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst_6 : Ref sig .tc := ⟨.hbm, 54, rfl⟩
abbrev main_v6 : Ref sig .tc := ⟨.hbm, 55, rfl⟩
abbrev main_v7 : Ref sig .tc := ⟨.hbm, 56, rfl⟩
abbrev main_cst_7 : Ref sig .tc := ⟨.hbm, 57, rfl⟩
abbrev main_v8 : Ref sig .tc := ⟨.hbm, 58, rfl⟩
abbrev main_v9 : Ref sig .tc := ⟨.hbm, 59, rfl⟩
abbrev main_cst_8 : Ref sig .tc := ⟨.hbm, 60, rfl⟩
abbrev main_v10 : Ref sig .tc := ⟨.hbm, 61, rfl⟩
abbrev main_v11 : Ref sig .tc := ⟨.hbm, 62, rfl⟩
abbrev main_cst_9 : Ref sig .tc := ⟨.hbm, 63, rfl⟩
abbrev main_v12 : Ref sig .tc := ⟨.hbm, 64, rfl⟩
abbrev main_v13 : Ref sig .tc := ⟨.hbm, 65, rfl⟩
abbrev main_cst_10 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_cst_11 : Ref sig .tc := ⟨.hbm, 82, rfl⟩
abbrev main_v29 : Ref sig .tc := ⟨.hbm, 83, rfl⟩
abbrev main_cst_12 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_cst_13 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_14 : Ref sig .tc := ⟨.hbm, 112, rfl⟩
abbrev main_v56 : Ref sig .tc := ⟨.hbm, 113, rfl⟩
abbrev main_cst_15 : Ref sig .tc := ⟨.hbm, 114, rfl⟩
abbrev main_v57 : Ref sig .tc := ⟨.hbm, 115, rfl⟩
abbrev main_v58 : Ref sig .tc := ⟨.hbm, 116, rfl⟩
abbrev main_cst_16 : Ref sig .tc := ⟨.hbm, 117, rfl⟩
abbrev main_v59 : Ref sig .tc := ⟨.hbm, 118, rfl⟩
abbrev main_c_17 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_18 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83_0 : Ref sig .tc := ⟨.hbm, 144, rfl⟩
abbrev main_v83_1 : Ref sig .tc := ⟨.hbm, 145, rfl⟩
abbrev main_v83_2 : Ref sig .tc := ⟨.hbm, 146, rfl⟩
abbrev main_v83_3 : Ref sig .tc := ⟨.hbm, 147, rfl⟩
abbrev main_v83_4 : Ref sig .tc := ⟨.hbm, 148, rfl⟩
abbrev main_v83_5 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojRefIdeal.lean ====
abbrev S18432x1024 : Shape := ⟨2, ![18432, 1024]⟩
abbrev S16x6x1024 : Shape := ⟨3, ![16, 6, 1024]⟩
abbrev S1024 : Shape := ⟨1, ![1024]⟩
abbrev S1024x2576 : Shape := ⟨2, ![1024, 2576]⟩
abbrev S16384x1024 : Shape := ⟨2, ![16384, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S8x2048x2576 : Shape := ⟨3, ![8, 2048, 2576]⟩
abbrev S2048x2576 : Shape := ⟨2, ![2048, 2576]⟩
abbrev S8x2048x384 : Shape := ⟨3, ![8, 2048, 384]⟩
abbrev S8x2048x6x64 : Shape := ⟨4, ![8, 2048, 6, 64]⟩
abbrev S8x2048x6x32 : Shape := ⟨4, ![8, 2048, 6, 32]⟩
abbrev S16 : Shape := ⟨1, ![16]⟩
abbrev S1x16 : Shape := ⟨2, ![1, 16]⟩
abbrev S2048x16 : Shape := ⟨2, ![2048, 16]⟩
abbrev S2048x1x16 : Shape := ⟨3, ![2048, 1, 16]⟩
abbrev S8x2048x6x16 : Shape := ⟨4, ![8, 2048, 6, 16]⟩
abbrev S1x2048x1x16 : Shape := ⟨4, ![1, 2048, 1, 16]⟩
abbrev S16384x384 : Shape := ⟨2, ![16384, 384]⟩
abbrev S2048x384 : Shape := ⟨2, ![2048, 384]⟩
abbrev S18432x384 : Shape := ⟨2, ![18432, 384]⟩
abbrev S18432x256 : Shape := ⟨2, ![18432, 256]⟩
abbrev S18432x128 : Shape := ⟨2, ![18432, 128]⟩
abbrev S16384x2576 : Shape := ⟨2, ![16384, 2576]⟩
abbrev S18432x2576 : Shape := ⟨2, ![18432, 2576]⟩
abbrev S18432x512 : Shape := ⟨2, ![18432, 512]⟩
abbrev S18432x768 : Shape := ⟨2, ![18432, 768]⟩
abbrev S18432x120 : Shape := ⟨2, ![18432, 120]⟩
abbrev S18432x8 : Shape := ⟨2, ![18432, 8]⟩

abbrev nBuf : Space → Nat
  | .hbm => 227
  | .vmem => 0
  | .smem => 0
  | _ => 0

abbrev hbmTy0_0 (i : Nat) : BufTy := match i % 128 with
  | 0 => ⟨S18432x1024, .f32⟩
  | 1 => ⟨S16x6x1024, .f32⟩
  | 2 => ⟨S1024, .f32⟩
  | 3 => ⟨S1024x2576, .f32⟩
  | 4 => ⟨S16384x1024, .f32⟩
  | 5 => ⟨S8x2048x1024, .f32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S8x1x1024, .f32⟩
  | 23 => ⟨S8x1024, .f32⟩
  | 24 => ⟨S8x1x1024, .f32⟩
  | 25 => ⟨S8x1x1024, .f32⟩
  | 26 => ⟨S8x1024, .f32⟩
  | 27 => ⟨S8x1x1024, .f32⟩
  | 28 => ⟨S_, .f32⟩
  | 29 => ⟨S8x1x1024, .f32⟩
  | 30 => ⟨S8x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S2048x1024, .f32⟩
  | 36 => ⟨S2048x1024, .f32⟩
  | 37 => ⟨S_, .f32⟩
  | 38 => ⟨S2048, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048x1, .f32⟩
  | 45 => ⟨S2048x1, .f32⟩
  | 46 => ⟨S2048x1, .f32⟩
  | 47 => ⟨S2048x1024, .f32⟩
  | 48 => ⟨S2048x1024, .f32⟩
  | 49 => ⟨S1x1024, .f32⟩
  | 50 => ⟨S2048x1024, .f32⟩
  | 51 => ⟨S2048x1024, .f32⟩
  | 52 => ⟨S1x1x1024, .f32⟩
  | 53 => ⟨S1024, .f32⟩
  | 54 => ⟨S1x1x1024, .f32⟩
  | 55 => ⟨S1024, .f32⟩
  | 56 => ⟨S_, .f32⟩
  | 57 => ⟨S1024, .f32⟩
  | 58 => ⟨S1024, .f32⟩
  | 59 => ⟨S1x1024, .f32⟩
  | 60 => ⟨S2048x1024, .f32⟩
  | 61 => ⟨S2048x1024, .f32⟩
  | 62 => ⟨S1x1024, .f32⟩
  | 63 => ⟨S2048x1024, .f32⟩
  | 64 => ⟨S2048x1024, .f32⟩
  | 65 => ⟨S8x2048x2576, .f32⟩
  | 66 => ⟨S2048x2576, .f32⟩
  | 67 => ⟨S2048, .i32⟩
  | 68 => ⟨S_, .i32⟩
  | 69 => ⟨S_, .i32⟩
  | 70 => ⟨S2048, .i32⟩
  | 71 => ⟨S2048, .i32⟩
  | 72 => ⟨S2048, .i32⟩
  | 73 => ⟨S_, .i32⟩
  | 74 => ⟨S2048, .i32⟩
  | 75 => ⟨S2048, .i1⟩
  | 76 => ⟨S2048, .i32⟩
  | 77 => ⟨S2048, .i32⟩
  | 78 => ⟨S_, .i32⟩
  | 79 => ⟨S2048, .i32⟩
  | 80 => ⟨S2048, .i1⟩
  | 81 => ⟨S2048, .i1⟩
  | 82 => ⟨S_, .i32⟩
  | 83 => ⟨S2048, .i32⟩
  | 84 => ⟨S2048, .i32⟩
  | 85 => ⟨S2048, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S2048, .i32⟩
  | 93 => ⟨S2048, .i32⟩
  | 94 => ⟨S_, .i32⟩
  | 95 => ⟨S2048, .i32⟩
  | 96 => ⟨S2048, .i1⟩
  | 97 => ⟨S_, .i32⟩
  | 98 => ⟨S2048, .i32⟩
  | 99 => ⟨S2048, .i1⟩
  | 100 => ⟨S_, .i32⟩
  | 101 => ⟨S_, .i1⟩
  | 102 => ⟨S2048, .i1⟩
  | 103 => ⟨S2048, .i1⟩
  | 104 => ⟨S2048, .i1⟩
  | 105 => ⟨S2048, .i32⟩
  | 106 => ⟨S2048, .i32⟩
  | 107 => ⟨S2048, .i32⟩
  | 108 => ⟨S8x2048x384, .f32⟩
  | 109 => ⟨S8x2048x6x64, .f32⟩
  | 110 => ⟨S8x2048x6x32, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S2048, .f32⟩
  | _ => ⟨S18432x1024, .f32⟩

abbrev hbmTy0_1 (i : Nat) : BufTy := match i % 128 with
  | 0 => ⟨S2048x1, .f32⟩
  | 1 => ⟨S1x16, .f32⟩
  | 2 => ⟨S2048x16, .f32⟩
  | 3 => ⟨S2048x16, .f32⟩
  | 4 => ⟨S2048x16, .f32⟩
  | 5 => ⟨S2048x16, .f32⟩
  | 6 => ⟨S2048x1x16, .f32⟩
  | 7 => ⟨S2048x16, .f32⟩
  | 8 => ⟨S2048x1x16, .f32⟩
  | 9 => ⟨S8x2048x6x16, .f32⟩
  | 10 => ⟨S8x2048x6x16, .f32⟩
  | 11 => ⟨S1x2048x1x16, .f32⟩
  | 12 => ⟨S8x2048x6x16, .f32⟩
  | 13 => ⟨S8x2048x6x16, .f32⟩
  | 14 => ⟨S1x2048x1x16, .f32⟩
  | 15 => ⟨S8x2048x6x16, .f32⟩
  | 16 => ⟨S8x2048x6x16, .f32⟩
  | 17 => ⟨S8x2048x6x16, .f32⟩
  | 18 => ⟨S1x2048x1x16, .f32⟩
  | 19 => ⟨S8x2048x6x16, .f32⟩
  | 20 => ⟨S8x2048x6x16, .f32⟩
  | 21 => ⟨S1x2048x1x16, .f32⟩
  | 22 => ⟨S8x2048x6x16, .f32⟩
  | 23 => ⟨S8x2048x6x16, .f32⟩
  | 24 => ⟨S8x2048x6x16, .f32⟩
  | 25 => ⟨S8x2048x6x32, .f32⟩
  | 26 => ⟨S8x2048x6x32, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S2048, .f32⟩
  | 44 => ⟨S2048x1, .f32⟩
  | 45 => ⟨S1x16, .f32⟩
  | 46 => ⟨S2048x16, .f32⟩
  | 47 => ⟨S2048x16, .f32⟩
  | 48 => ⟨S2048x16, .f32⟩
  | 49 => ⟨S2048x16, .f32⟩
  | 50 => ⟨S2048x1x16, .f32⟩
  | 51 => ⟨S2048x16, .f32⟩
  | 52 => ⟨S2048x1x16, .f32⟩
  | 53 => ⟨S8x2048x6x16, .f32⟩
  | 54 => ⟨S8x2048x6x16, .f32⟩
  | 55 => ⟨S1x2048x1x16, .f32⟩
  | 56 => ⟨S8x2048x6x16, .f32⟩
  | 57 => ⟨S8x2048x6x16, .f32⟩
  | 58 => ⟨S1x2048x1x16, .f32⟩
  | 59 => ⟨S8x2048x6x16, .f32⟩
  | 60 => ⟨S8x2048x6x16, .f32⟩
  | 61 => ⟨S8x2048x6x16, .f32⟩
  | 62 => ⟨S1x2048x1x16, .f32⟩
  | 63 => ⟨S8x2048x6x16, .f32⟩
  | 64 => ⟨S8x2048x6x16, .f32⟩
  | 65 => ⟨S1x2048x1x16, .f32⟩
  | 66 => ⟨S8x2048x6x16, .f32⟩
  | 67 => ⟨S8x2048x6x16, .f32⟩
  | 68 => ⟨S8x2048x6x16, .f32⟩
  | 69 => ⟨S8x2048x6x32, .f32⟩
  | 70 => ⟨S8x2048x6x64, .f32⟩
  | 71 => ⟨S16384x384, .f32⟩
  | 72 => ⟨S2048x384, .f32⟩
  | 73 => ⟨S18432x384, .f32⟩
  | 74 => ⟨S18432x256, .f32⟩
  | 75 => ⟨S_, .f32⟩
  | 76 => ⟨S18432x256, .f32⟩
  | 77 => ⟨S18432x256, .f32⟩
  | 78 => ⟨S18432x128, .f32⟩
  | 79 => ⟨S18432x384, .f32⟩
  | 80 => ⟨S16384x2576, .f32⟩
  | 81 => ⟨S18432x2576, .f32⟩
  | 82 => ⟨S18432x256, .f32⟩
  | 83 => ⟨S_, .f32⟩
  | 84 => ⟨S18432x256, .f32⟩
  | 85 => ⟨S18432x256, .f32⟩
  | 86 => ⟨S18432x512, .f32⟩
  | 87 => ⟨S18432x768, .f32⟩
  | 88 => ⟨S_, .f32⟩
  | 89 => ⟨S18432x120, .f32⟩
  | 90 => ⟨S18432x8, .f32⟩
  | 91 => ⟨S18432x8, .f32⟩
  | 92 => ⟨S18432x256, .f32⟩
  | 93 => ⟨S18432x384, .bf16⟩
  | 94 => ⟨S18432x128, .f32⟩
  | 95 => ⟨S18432x128, .bf16⟩
  | 96 => ⟨S18432x512, .f32⟩
  | 97 => ⟨S18432x768, .f32⟩
  | 98 => ⟨S18432x768, .bf16⟩
  | _ => ⟨S18432x1024, .f32⟩

abbrev hbmTy (i : Nat) : BufTy := match i / 128 with
  | 0 => hbmTy0_0 i
  | 1 => hbmTy0_1 i
  | _ => ⟨S18432x1024, .f32⟩

abbrev bufTy : (tb : Table) → Fin (tcTables nBuf tb) → BufTy
  | .hbm, ⟨i, _⟩ => hbmTy i
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_c : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_0 : Ref sig .tc := ⟨.hbm, 82, rfl⟩
abbrev main_call0_v12 : Ref sig .tc := ⟨.hbm, 83, rfl⟩
abbrev main_call0_v13 : Ref sig .tc := ⟨.hbm, 84, rfl⟩
abbrev main_v56 : Ref sig .tc := ⟨.hbm, 85, rfl⟩
abbrev main_c_7 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_c_1 : Ref sig .tc := ⟨.hbm, 94, rfl⟩
abbrev main_call1_v5 : Ref sig .tc := ⟨.hbm, 95, rfl⟩
abbrev main_call1_v6 : Ref sig .tc := ⟨.hbm, 96, rfl⟩
abbrev main_call1_c_2 : Ref sig .tc := ⟨.hbm, 97, rfl⟩
abbrev main_call1_v7 : Ref sig .tc := ⟨.hbm, 98, rfl⟩
abbrev main_call1_v8 : Ref sig .tc := ⟨.hbm, 99, rfl⟩
abbrev main_call1_c_3 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_v12 : Ref sig .tc := ⟨.hbm, 104, rfl⟩
abbrev main_call1_v13 : Ref sig .tc := ⟨.hbm, 105, rfl⟩
abbrev main_call1_v14 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_8 : Ref sig .tc := ⟨.hbm, 112, rfl⟩
abbrev main_v62 : Ref sig .tc := ⟨.hbm, 113, rfl⟩
abbrev main_v63 : Ref sig .tc := ⟨.hbm, 114, rfl⟩
abbrev main_cst_9 : Ref sig .tc := ⟨.hbm, 115, rfl⟩
abbrev main_v64 : Ref sig .tc := ⟨.hbm, 116, rfl⟩
abbrev main_v65 : Ref sig .tc := ⟨.hbm, 117, rfl⟩
abbrev main_cst_10 : Ref sig .tc := ⟨.hbm, 118, rfl⟩
abbrev main_v66 : Ref sig .tc := ⟨.hbm, 119, rfl⟩
abbrev main_v67 : Ref sig .tc := ⟨.hbm, 120, rfl⟩
abbrev main_cst_11 : Ref sig .tc := ⟨.hbm, 121, rfl⟩
abbrev main_v68 : Ref sig .tc := ⟨.hbm, 122, rfl⟩
abbrev main_v69 : Ref sig .tc := ⟨.hbm, 123, rfl⟩
abbrev main_cst_12 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_13 : Ref sig .tc := ⟨.hbm, 156, rfl⟩
abbrev main_v101 : Ref sig .tc := ⟨.hbm, 157, rfl⟩
abbrev main_v102 : Ref sig .tc := ⟨.hbm, 158, rfl⟩
abbrev main_cst_14 : Ref sig .tc := ⟨.hbm, 159, rfl⟩
abbrev main_v103 : Ref sig .tc := ⟨.hbm, 160, rfl⟩
abbrev main_v104 : Ref sig .tc := ⟨.hbm, 161, rfl⟩
abbrev main_cst_15 : Ref sig .tc := ⟨.hbm, 162, rfl⟩
abbrev main_v105 : Ref sig .tc := ⟨.hbm, 163, rfl⟩
abbrev main_v106 : Ref sig .tc := ⟨.hbm, 164, rfl⟩
abbrev main_cst_16 : Ref sig .tc := ⟨.hbm, 165, rfl⟩
abbrev main_v107 : Ref sig .tc := ⟨.hbm, 166, rfl⟩
abbrev main_v108 : Ref sig .tc := ⟨.hbm, 167, rfl⟩
abbrev main_cst_17 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_18 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_19 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_20 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩

abbrev nD : Nat := 1
abbrev τ : Topo := Topo.v7x

variable {F : FTy → Type} [FloatOps F]
-- ==== Proof.Softmax.lean ====
/- Softmax attention over the extended reals, written two ways: a sum of products divided at the end, and a sum of
   quotients times values.  They agree when every score is below ⊤ and some score is above ⊥; and scores that are ⊥
   (masked keys) may be added or left out, whatever values stand behind them. -/
module

public import Idealize.ShloMosaic.Init
public import Idealize.ShloMosaic.PureOps.Ideal

@[expose] public section

noncomputable section

namespace Cert.Softmax

open Idealize.ShloMosaic

/-- The greatest of finitely many extended reals, ⊥ if there are none. -/
def top {ι : Type} [Fintype ι] (f : ι → EReal) : EReal := Finset.univ.fold max ⊥ f

/-- The float pattern of −∞. -/
theorem neg_inf : Ideal.ofBits .f32 0xFF800000#32 = (⊥ : EReal) := by
  simp [Ideal.ofBits, Ideal.ieee]

theorem top_eq {ι : Type} [Fintype ι] (f : ι → EReal) : top f = Finset.univ.sup f := rfl

theorem le_top {ι : Type} [Fintype ι] (f : ι → EReal) (i : ι) : f i ≤ top f := by
  rw [top_eq]; exact Finset.le_sup (Finset.mem_univ i)

theorem top_le {ι : Type} [Fintype ι] {f : ι → EReal} {a : EReal} (h : ∀ i, f i ≤ a) : top f ≤ a := by
  rw [top_eq]; exact Finset.sup_le fun i _ => h i

/-- Keys that score ⊥ do not count for the greatest score. -/
theorem top_transfer {J J' : Type} [Fintype J] [Fintype J'] (ι : J' → J) {L : J → EReal} {L' : J' → EReal}
    (hin : ∀ j, L (ι j) = L' j) (hout : ∀ j, (∀ j', ι j' ≠ j) → L j = ⊥) : top L = top L' := by
  refine le_antisymm (top_le fun j => ?_) (top_le fun j => ?_)
  · by_cases h : ∃ j', ι j' = j
    · obtain ⟨j', rfl⟩ := h
      rw [hin]; exact le_top L' j'
    · rw [hout j fun j' hj => h ⟨j', hj⟩]; exact bot_le
  · rw [← hin]; exact le_top L (ι j)

/-- A weight: the exponential of a score less the shift. -/
def wt (x m : EReal) : EReal := Ideal.exp (x - m)

theorem wt_bot (m : EReal) : wt ⊥ m = 0 := by
  unfold wt; rw [EReal.bot_sub]; rfl

/-- Terms that vanish off the image of an injection may be left out of a sum. -/
theorem sum_transfer {J J' : Type} [Fintype J] [Fintype J'] (ι : J' → J) (hι : Function.Injective ι)
    {F : J → EReal} {F' : J' → EReal} (hin : ∀ j, F (ι j) = F' j) (hout : ∀ j, (∀ j', ι j' ≠ j) → F j = 0) :
    ∑ j, F j = ∑ j, F' j := by
  classical
  rw [← Finset.sum_congr rfl fun j _ => hin j]
  exact (Finset.sum_of_injOn ι hι.injOn (by simp) (fun j _ hj => hout j fun j' h => hj (by simp [← h])) (fun _ _ => rfl)).symm

theorem wt_nonneg (x m : EReal) : 0 ≤ wt x m := by
  unfold wt
  induction (x - m) with
  | bot => exact le_rfl
  | top => exact _root_.le_top
  | coe r => exact EReal.coe_nonneg.2 (Real.exp_pos r).le

/-- Below ⊤, and shifted by a number, a score has a weight below ⊤. -/
theorem wt_ne_top {x : EReal} (hx : x ≠ ⊤) (r : ℝ) : wt x r ≠ ⊤ := by
  induction x with
  | bot => rw [wt_bot]; exact EReal.zero_ne_top
  | top => exact absurd rfl hx
  | coe a => unfold wt; rw [← EReal.coe_sub]; exact EReal.coe_ne_top _

theorem wt_self (r : ℝ) : wt r r = 1 := by
  unfold wt; rw [← EReal.coe_sub, sub_self]
  change ((Real.exp 0 : ℝ) : EReal) = 1
  rw [Real.exp_zero]; rfl

theorem sum_ne_top {ι : Type} (s : Finset ι) {f : ι → EReal} (h : ∀ i, f i ≠ ⊤) : ∑ i ∈ s, f i ≠ ⊤ := by
  classical
  induction s using Finset.induction_on with
  | empty => simp
  | insert a s ha ih => rw [Finset.sum_insert ha]; exact EReal.add_ne_top (h a) ih

/-- The sum of the weights, shifted by the greatest score, is a positive number. -/
theorem total {ι : Type} [Fintype ι] {x : ι → EReal} (hT : ∀ i, x i ≠ ⊤) (i₀ : ι) (hB : x i₀ ≠ ⊥) :
    0 < ∑ i, wt (x i) (top x) ∧ ∑ i, wt (x i) (top x) ≠ ⊤ := by
  obtain ⟨i, -, hi⟩ := Finset.exists_mem_eq_sup Finset.univ ⟨i₀, Finset.mem_univ i₀⟩ x
  rw [← top_eq] at hi
  have h1 : top x ≠ ⊤ := hi ▸ hT i
  have h2 : top x ≠ ⊥ := fun h => hB (le_bot_iff.1 (h ▸ le_top x i₀))
  obtain ⟨r, hr⟩ : ∃ r : ℝ, top x = r := ⟨(top x).toReal, (EReal.coe_toReal h1 h2).symm⟩
  rw [hr]
  refine ⟨lt_of_lt_of_le zero_lt_one ?_, sum_ne_top _ fun i => wt_ne_top (hT i) r⟩
  calc (1 : EReal) = wt (x i) r := by rw [← hi, hr, wt_self]
    _ ≤ _ := Finset.single_le_sum (f := fun i => wt (x i) r) (fun i _ => wt_nonneg _ _) (Finset.mem_univ i)

/-- A factor that is a number and not negative may be taken out of a sum. -/
theorem sum_mul_right {ι : Type} (s : Finset ι) (f : ι → EReal) {c : EReal} (h0 : 0 ≤ c) (hc : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 hc]

/-- Dividing every weight by a positive number, or the sums of products at the end. -/
theorem divide_late {J K : Type} [Fintype J] [Fintype K] (e V : J → EReal) (e' V' : K → EReal) {D : EReal} (h0 : 0 < D) (hD : D ≠ ⊤) :
    ∑ j, Ideal.div (e j) D * V j + ∑ k, Ideal.div (e' k) D * V' k = Ideal.div (∑ j, e j * V j + ∑ k, e' k * V' k) D := by
  have hz : D ≠ 0 := h0.ne'
  have hdiv : ∀ x, Ideal.div x D = x * D⁻¹ := fun x => by unfold Ideal.div; rw [if_neg hz]
  have hi0 : 0 ≤ D⁻¹ := EReal.inv_nonneg_of_nonneg h0.le
  have hi : D⁻¹ ≠ ⊤ := by
    induction D with
    | bot => simp
    | top => simp
    | coe r => rw [← EReal.coe_inv]; exact EReal.coe_ne_top _
  simp only [hdiv, mul_right_comm _ D⁻¹ _]
  rw [sum_mul_right _ _ hi0 hi, sum_mul_right _ _ hi0 hi, EReal.right_distrib_of_nonneg_of_ne_top hi0 hi]

variable {J J' K : Type} [Fintype J] [Fintype J'] [Fintype K]

/-- The greatest of the local scores `L`, the context scores `C` and the sink `s`. -/
def shift (L : J → EReal) (C : K → EReal) (s : EReal) : EReal := max (max (top L) (top C)) s

/-- The sum of the weights of the local scores, the context scores and the sink. -/
def norm (L : J → EReal) (C : K → EReal) (s m : EReal) : EReal := ∑ j, wt (L j) m + ∑ k, wt (C k) m + wt s m

/-- Attention to local values `V` and context values `W`, divided after the products. -/
def late (L V : J → EReal) (C W : K → EReal) (s : EReal) : EReal :=
  Ideal.div (∑ j, wt (L j) (shift L C s) * V j + ∑ k, wt (C k) (shift L C s) * W k) (norm L C s (shift L C s))

/-- Attention to local values `V` and context values `W`, every weight divided before the products. -/
def early (L V : J → EReal) (C W : K → EReal) (s : EReal) : EReal :=
  ∑ j, Ideal.div (wt (L j) (shift L C s)) (norm L C s (shift L C s)) * V j
    + ∑ k, Ideal.div (wt (C k) (shift L C s)) (norm L C s (shift L C s)) * W k

/-- All the scores as one family. -/
def all (L : J → EReal) (C : K → EReal) (s : EReal) : (J ⊕ K) ⊕ Unit → EReal
  | .inl (.inl j) => L j
  | .inl (.inr k) => C k
  | .inr _ => s

theorem shift_all (L : J → EReal) (C : K → EReal) (s : EReal) : shift L C s = top (all L C s) := by
  unfold shift
  refine le_antisymm (max_le (max_le (top_le fun j => ?_) (top_le fun k => ?_)) ?_) (top_le fun i => ?_)
  · exact le_top (all L C s) (.inl (.inl j))
  · exact le_top (all L C s) (.inl (.inr k))
  · exact le_top (all L C s) (.inr ())
  · rcases i with (j | k) | u
    · exact (le_top L j).trans ((le_max_left _ _).trans (le_max_left _ _))
    · exact (le_top C k).trans ((le_max_right _ _).trans (le_max_left _ _))
    · exact le_max_right _ _

theorem norm_all (L : J → EReal) (C : K → EReal) (s m : EReal) : norm L C s m = ∑ i, wt (all L C s i) m := by
  rw [Fintype.sum_sum_type, Fintype.sum_sum_type]
  simp [norm, all]

/-- The two ways agree when every score is below ⊤ and some context score is above ⊥. -/
theorem early_eq_late {L V : J → EReal} {C W : K → EReal} {s : EReal} (hL : ∀ j, L j ≠ ⊤) (hC : ∀ k, C k ≠ ⊤) (hs : s ≠ ⊤)
    (k₀ : K) (hk : C k₀ ≠ ⊥) : early L V C W s = late L V C W s := by
  have h := total (x := all L C s) (by rintro ((j | k) | u); exacts [hL j, hC k, hs]) (.inl (.inr k₀)) hk
  rw [← shift_all, ← norm_all] at h
  exact divide_late _ _ _ _ h.1 h.2

/-- Masked keys may be added, left out or moved. -/
theorem late_transfer (ι : J' → J) (hι : Function.Injective ι) {L V : J → EReal} {L' V' : J' → EReal} {C W : K → EReal} {s : EReal}
    (hin : ∀ j, L (ι j) = L' j) (hout : ∀ j, (∀ j', ι j' ≠ j) → L j = ⊥) (hV : ∀ j, L' j ≠ ⊥ → V (ι j) = V' j) :
    late L V C W s = late L' V' C W s := by
  have hm : shift L C s = shift L' C s := by unfold shift; rw [top_transfer ι hin hout]
  unfold late norm
  rw [hm, sum_transfer ι hι (F := fun j => wt (L j) (shift L' C s)) (F' := fun j => wt (L' j) (shift L' C s))
      (fun j => by rw [hin]) (fun j h => by rw [hout j h, wt_bot]),
    sum_transfer ι hι (F := fun j => wt (L j) (shift L' C s) * V j) (F' := fun j => wt (L' j) (shift L' C s) * V' j)
      (fun j => ?_) (fun j h => by rw [hout j h, wt_bot, zero_mul])]
  rw [hin]
  by_cases h : L' j = ⊥
  · rw [h, wt_bot, zero_mul, zero_mul]
  · rw [hV j h]

/-- A sum of products of numbers is a number. -/
theorem dot_number {ι : Type} [Fintype ι] {a b : ι → EReal} (ha : ∀ i, a i ≠ ⊤ ∧ a i ≠ ⊥) (hb : ∀ i, b i ≠ ⊤ ∧ b i ≠ ⊥) :
    ∑ i, a i * b i ≠ ⊤ ∧ ∑ i, a i * b i ≠ ⊥ := by
  have h : ∃ r : ℝ, ∑ i, a i * b i = r := by
    refine ⟨∑ i, (a i).toReal * (b i).toReal, ?_⟩
    classical
    induction (Finset.univ : Finset ι) using Finset.induction_on with
    | empty => simp
    | insert k t hk ih =>
      rw [Finset.sum_insert hk, Finset.sum_insert hk, ih, EReal.coe_add, EReal.coe_mul, EReal.coe_toReal (ha k).1 (ha k).2,
        EReal.coe_toReal (hb k).1 (hb k).2]
  obtain ⟨r, hr⟩ := h
  rw [hr]; exact ⟨EReal.coe_ne_top r, EReal.coe_ne_bot r⟩

/-- The greatest of a family that is laid end to end from three. -/
theorem top_three {a b n : ℕ} (hn : n = a + b + 1) (A : Fin a → EReal) (B : Fin b → EReal) (s : EReal) (x : Fin n → EReal)
    (hA : ∀ j : Fin a, x ⟨j, by omega⟩ = A j) (hB : ∀ k : Fin b, x ⟨a + k, by omega⟩ = B k) (hs : x ⟨a + b, by omega⟩ = s) :
    top x = shift A B s := by
  unfold shift
  refine le_antisymm (top_le fun i => ?_) (max_le (max_le (top_le fun j => ?_) (top_le fun k => ?_)) ?_)
  · rcases lt_or_ge i.val a with h | h
    · have := hA ⟨i, h⟩
      rw [show x i = A ⟨i, h⟩ from this]
      exact (le_top A _).trans ((le_max_left _ _).trans (le_max_left _ _))
    · rcases lt_or_ge i.val (a + b) with h' | h'
      · have := hB ⟨i - a, by omega⟩
        rw [show x i = B ⟨i - a, by omega⟩ from Eq.trans (congrArg x (Fin.ext (by simp; omega))) this]
        exact (le_top B _).trans ((le_max_right _ _).trans (le_max_left _ _))
      · rw [show x i = s from Eq.trans (congrArg x (Fin.ext (by simp; omega))) hs]
        exact le_max_right _ _
  · rw [← hA]; exact le_top x _
  · rw [← hB]; exact le_top x _
  · rw [← hs]; exact le_top x _

/-- A sum over a family that is laid end to end from three. -/
theorem sum_three {a b n : ℕ} (hn : n = a + b + 1) (A : Fin a → EReal) (B : Fin b → EReal) (s : EReal) (x : Fin n → EReal)
    (hA : ∀ j : Fin a, x ⟨j, by omega⟩ = A j) (hB : ∀ k : Fin b, x ⟨a + k, by omega⟩ = B k) (hs : x ⟨a + b, by omega⟩ = s) :
    ∑ i, x i = ∑ j, A j + ∑ k, B k + s := by
  subst hn
  rw [Fin.sum_univ_castSucc, Fin.sum_univ_add, ← hs]
  congr 1
  refine congrArg₂ _ (Finset.sum_congr rfl fun j _ => ?_) (Finset.sum_congr rfl fun k _ => ?_)
  · rw [← hA]; rfl
  · rw [← hB]; rfl

end Cert.Softmax

end
-- ==== Proof.WattnWindow.lean ====
/-
  Window attention of one query, over the padded positions of its sequence: position `P` of 2304 is key `P - 128` of
  2048, and query `q` sees the keys at most 128 away. `attn` is the softmax attention to the keys seen, the context keys
  and a sink; `attn_window` says that any run of 384 positions holding the keys seen gives the same. The lemmas on 32-bit
  integers read a mask computed in machine arithmetic as the condition on positions.
-/
module

public import proofs.«01_k».proof.Proof.Softmax

@[expose] public section

noncomputable section

namespace Cert.Window

open Idealize.ShloMosaic Cert.Softmax

/-- Query `q` sees the key at padded position `P`. -/
def Sees (q P : ℕ) : Prop := 128 ≤ P ∧ P < 2176 ∧ q ≤ P ∧ P ≤ q + 256

instance (q P : ℕ) : Decidable (Sees q P) := by unfold Sees; infer_instance

/-- The score of the key at padded position `P`, ⊥ where the query does not see it. -/
def score (q : ℕ) (Q : Fin 64 → EReal) (K : Fin 2304 → Fin 64 → EReal) (P : Fin 2304) : EReal :=
  if Sees q P.val then ∑ d, Q d * K P d else ⊥

/-- Attention of one query to the keys it sees, to the context keys `C` and to a sink `s`. -/
def attn (q : ℕ) (Q : Fin 64 → EReal) (K : Fin 2304 → Fin 64 → EReal) (V : Fin 2304 → EReal) (C : Fin 256 → EReal)
    (W : Fin 256 → EReal) (s : EReal) : EReal :=
  late (score q Q K) V C W s

/-- A run of 384 positions that holds every key seen is enough. -/
theorem attn_window (q off : ℕ) (hq : ∀ P, Sees q P → off ≤ P ∧ P < off + 384) (ho : off + 384 ≤ 2304)
    (Q : Fin 64 → EReal) (K : Fin 2304 → Fin 64 → EReal) (V : Fin 2304 → EReal) (C W : Fin 256 → EReal) (s : EReal)
    (L' V' : Fin 384 → EReal)
    (hL : ∀ j : Fin 384, L' j = if Sees q (off + j.val) then ∑ d, Q d * K ⟨off + j.val, by omega⟩ d else ⊥)
    (hV : ∀ j : Fin 384, Sees q (off + j.val) → V' j = V ⟨off + j.val, by omega⟩) :
    late L' V' C W s = attn q Q K V C W s := by
  refine (late_transfer (fun j : Fin 384 => (⟨off + j.val, by omega⟩ : Fin 2304)) (fun a b h => ?_) (fun j => ?_)
    (fun P h => ?_) (fun j h => ?_)).symm
  · have := Fin.mk.inj h
    exact Fin.ext (by omega)
  · rw [hL]; rfl
  · unfold score
    rw [if_neg]
    intro hs
    obtain ⟨h1, h2⟩ := hq _ hs
    exact h ⟨P.val - off, by omega⟩ (Fin.ext (by dsimp only; omega))
  · refine (hV j ?_).symm
    by_contra hs
    rw [hL, if_neg hs] at h
    exact h rfl

/-- A 32-bit integer. -/
abbrev i32 (z : ℤ) : BitVec 32 := BitVec.ofInt 32 z

theorem i32_nat (n : ℕ) : BitVec.ofNat 32 n = i32 n := (BitVec.ofInt_natCast 32 n).symm

theorem toInt_i32 {z : ℤ} (h0 : -2147483648 ≤ z) (h1 : z < 2147483648) : (i32 z).toInt = z := by
  rw [BitVec.toInt_ofInt]
  exact Int.bmod_eq_of_le (by norm_num; omega) (by norm_num; omega)

theorem i32_add (a b : ℤ) : IntOp.addi (i32 a) (i32 b) = i32 (a + b) := (BitVec.ofInt_add a b).symm

theorem i32_mul (a b : ℤ) : IntOp.muli (i32 a) (i32 b) = i32 (a * b) := (BitVec.ofInt_mul a b).symm

theorem i32_neg (a : ℤ) : - i32 a = i32 (-a) := BitVec.ofInt_neg.symm

theorem i32_sub (a b : ℤ) : IntOp.subi (i32 a) (i32 b) = i32 (a - b) := by
  unfold IntOp.subi
  rw [BitVec.sub_eq_add_neg, i32_neg, sub_eq_add_neg]
  exact (BitVec.ofInt_add a (-b)).symm

theorem i32_abs {a : ℤ} (h0 : -2147483648 < a) (h1 : a < 2147483648) : IntOp.absi (i32 a) = i32 |a| := by
  unfold IntOp.absi
  rw [BitVec.msb_eq_toInt, toInt_i32 h0.le h1]
  by_cases h : a < 0
  · simp only [h, decide_true, if_true]
    rw [i32_neg, abs_of_neg h]
  · simp only [h, decide_false]
    rw [abs_of_nonneg (not_lt.1 h)]
    rfl

theorem i32_sle {a b : ℤ} (ha : -2147483648 ≤ a) (ha' : a < 2147483648) (hb : -2147483648 ≤ b) (hb' : b < 2147483648) :
    IntOp.cmpi .sle (i32 a) (i32 b) = if a ≤ b then 1#1 else 0#1 := by
  unfold IntOp.cmpi
  simp only [BitVec.sle, toInt_i32 ha ha', toInt_i32 hb hb']
  by_cases h : a ≤ b <;> simp [h]

theorem i32_slt {a b : ℤ} (ha : -2147483648 ≤ a) (ha' : a < 2147483648) (hb : -2147483648 ≤ b) (hb' : b < 2147483648) :
    IntOp.cmpi .slt (i32 a) (i32 b) = if a < b then 1#1 else 0#1 := by
  unfold IntOp.cmpi
  simp only [BitVec.slt, toInt_i32 ha ha', toInt_i32 hb hb']
  by_cases h : a < b <;> simp [h]

/-- The two positions are at most 128 apart, as machine arithmetic tests it. -/
theorem near {a b : ℤ} (ha : -100000 ≤ a) (ha' : a ≤ 100000) (hb : -100000 ≤ b) (hb' : b ≤ 100000) :
    IntOp.cmpi .sle (IntOp.absi (IntOp.subi (i32 a) (i32 b))) (i32 128) = if |a - b| ≤ 128 then 1#1 else 0#1 := by
  have h := abs_le.2 (show -200000 ≤ a - b ∧ a - b ≤ 200000 by omega)
  have h' := abs_nonneg (a - b)
  rw [i32_sub, i32_abs (by omega) (by omega), i32_sle (by omega) (by omega) (by omega) (by omega)]

/-- The reference's mask of a block and its neighbours. -/
theorem mask_padded (n r j : ℕ) (hn : n < 16) (hr : r < 128) (hj : j < 384) :
    IntOp.andi (IntOp.andi
      (IntOp.cmpi .sle (IntOp.absi (IntOp.subi (IntOp.addi (IntOp.muli (BitVec.ofNat 32 n) 128#32) (BitVec.ofNat 32 r))
          (IntOp.addi (IntOp.subi (IntOp.muli (BitVec.ofNat 32 n) 128#32) 128#32) (BitVec.ofNat 32 j)))) 128#32)
      (IntOp.cmpi .sge (IntOp.addi (IntOp.subi (IntOp.muli (BitVec.ofNat 32 n) 128#32) 128#32) (BitVec.ofNat 32 j)) 0#32))
      (IntOp.cmpi .slt (IntOp.addi (IntOp.subi (IntOp.muli (BitVec.ofNat 32 n) 128#32) 128#32) (BitVec.ofNat 32 j)) 2048#32)
    = if Sees (128 * n + r) (128 * n + j) then 1#1 else 0#1 := by
  have e0 : IntOp.cmpi .sge (i32 (n * 128 - 128 + j)) (i32 0) = IntOp.cmpi .sle (i32 0) (i32 (n * 128 - 128 + j)) := rfl
  rw [show (128#32 : BitVec 32) = i32 128 from rfl, show (0#32 : BitVec 32) = i32 0 from rfl,
    show (2048#32 : BitVec 32) = i32 2048 from rfl]
  simp only [i32_nat, i32_mul, i32_add]
  rw [i32_sub (n * 128) 128]
  simp only [i32_add]
  rw [near (by omega) (by omega) (by omega) (by omega), e0, i32_sle (by omega) (by omega) (by omega) (by omega),
    i32_slt (by omega) (by omega) (by omega) (by omega)]
  by_cases h : Sees (128 * n + r) (128 * n + j)
  · rw [if_pos h]
    obtain ⟨h1, h2, h3, h4⟩ := h
    rw [if_pos (abs_le.2 (by omega)), if_pos (by omega), if_pos (by omega)]
    rfl
  · rw [if_neg h]
    by_cases h1 : |(n * 128 + r : ℤ) - (n * 128 - 128 + j)| ≤ 128
    · rw [if_pos h1]
      have h1' := abs_le.1 h1
      by_cases h2 : (0 : ℤ) ≤ n * 128 - 128 + j
      · have h3 : ¬ (n * 128 - 128 + j : ℤ) < 2048 := fun h3 => h ⟨by omega, by omega, by omega, by omega⟩
        rw [if_pos h2, if_neg h3]; rfl
      · rw [if_neg h2]; split <;> rfl
    · rw [if_neg h1]; split <;> split <;> rfl

/-- The first key a grid point loads: the block before its own, kept inside the sequence. -/
def start (n : ℕ) : ℕ := 128 * min 13 (n - 1)

/-- The kernel's mask over the 384 keys it loads. -/
theorem mask_loaded (n r j : ℕ) (hn : n < 16) (hr : r < 128) (hj : j < 384) :
    IntOp.cmpi .sle (IntOp.absi (IntOp.subi (i32 (n * 128 + r)) (i32 (start n + j)))) 128#32
    = if Sees (128 * n + r) (start n + 128 + j) then 1#1 else 0#1 := by
  have hs : start n ≤ 1664 := by unfold start; omega
  rw [show (128#32 : BitVec 32) = i32 128 from rfl, near (by omega) (by omega) (by omega) (by omega)]
  congr 1
  rw [abs_le]
  unfold Sees
  apply propext
  constructor <;> intro h <;> refine ⟨?_, ?_⟩ <;> try omega

end Cert.Window

end
-- ==== Proof.WattnBlock.lean ====
/-
  Window attention, one block: what one grid point computes for its 128 queries and four heads, read at an entry as
  the softmax attention of one query, divided after the products.
-/
module

public import proofs.«01_k».proof.Proof.WattnWindow
public import proofs.«01_k».proof.Proof.Gen.WattnIdeal.Value
public import proofs.«01_k».proof.Proof.Gen.WattnRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WattnIdeal.KVal

open Cert.WattnIdeal Cert.WattnIdeal.Gen Cert.Softmax Cert.Window

/-- The first 128 of the 256 stacked rows belong to the first head of the pair. -/
theorem first_at (a : Fin 256) : k0_pay3 (ix2 a 0) = if a.val < 128 then 1#1 else 0#1 := by
  pointwise [k0_pay3]
  rw [show (128#32 : BitVec 32) = i32 128 from rfl, i32_nat, i32_slt (by omega) (by omega) (by omega) (by omega)]
  norm_cast

theorem low_bits : ∀ a : Fin 256, IntOp.andi (BitVec.ofNat 32 a.val) 127#32 = BitVec.ofNat 32 (a.val % 128) := by decide +kernel

theorem start_at : ∀ n : Fin 16,
    Scalar.muli (Scalar.minsi (13#32) (Scalar.maxsi (0#32) (Scalar.subi (BitVec.ofNat 32 n.val) 1#32))) 128#32
      = BitVec.ofNat 32 (start n.val) := by decide +kernel

theorem mask_at (i : grid0.Coords) (a : Fin 256) (j : Fin 384) :
    k0_pay2 i (ix2 a j) = if Sees (128 * (i 1).val + a.val % 128) (start (i 1).val + 128 + j.val) then 1#1 else 0#1 := by
  have hi : (i 1).val < 16 := (i 1).isLt
  pointwise [k0_pay2]
  rw [low_bits, show BitVec.ofNat 32 (i 1).val = BitVec.ofNat 32 (⟨(i 1).val, hi⟩ : Fin 16).val from rfl, start_at]
  rw [← mask_loaded (i 1).val (a.val % 128) j.val hi (by omega) j.isLt]
  unfold Scalar.muli
  rw [show (128#32 : BitVec 32) = i32 128 from rfl]
  simp only [i32_nat, i32_mul, i32_add]

/-- The masked scores are filled with −∞. -/
theorem fill : (Named.named κ "mask" 0xF149F2CA#32 : Ideal .f32) = (⊥ : EReal) :=
  IdealRules.named_const.ideal_named_scalar _ _ _ _ rfl

/-- Row `a` of the 256 stacked rows of a pair of heads whose lanes begin at `o`: row `a % 128` of head `a / 128`. -/
def stacked (q : FVec Ideal S128x256 .bf16) (o : ℕ) (ho : o ≤ 128) (a : Fin 256) (d : Fin 64) : EReal :=
  q (ix2 (⟨a.val % 128, by omega⟩ : Fin 128) (⟨o + 64 * (a.val / 128) + d.val, by omega⟩ : Fin 256))

theorem stacked_eq (q : FVec Ideal S128x256 .bf16) (o : ℕ) (ho : o ≤ 128) (a : Fin 256) (d : Fin 64) (l0 l1 : Fin 256)
    (h0 : l0.val = o + d.val) (h1 : l1.val = o + 64 + d.val) :
    (if h : a.val < 128 then q (ix2 (⟨a.val, h⟩ : Fin 128) l0) else q (ix2 (⟨a.val - 128, by omega⟩ : Fin 128) l1)) = stacked q o ho a d := by
  unfold stacked
  by_cases h : a.val < 128
  · rw [dif_pos h, show l0 = ⟨o + 64 * (a.val / 128) + d.val, by omega⟩ from Fin.ext (by dsimp only; omega),
      show (⟨a.val, h⟩ : Fin 128) = ⟨a.val % 128, by omega⟩ from Fin.ext (by dsimp only; omega)]
  · rw [dif_neg h, show l1 = ⟨o + 64 * (a.val / 128) + d.val, by omega⟩ from Fin.ext (by dsimp only; omega),
      show (⟨a.val - 128, by omega⟩ : Fin 128) = ⟨a.val % 128, by omega⟩ from Fin.ext (by dsimp only; omega)]

/-- A local score of the first pair of heads. -/
theorem loc0_at (i : grid0.Coords) (q : FVec Ideal S128x256 .bf16) (k : FVec Ideal S384x128 .bf16) (a : Fin 256) (j : Fin 384) :
    k0_pay6 (F := Ideal) i q k (ix2 a j) =
      Scalar.select (k0_pay2 i (ix2 a j)) (∑ d : Fin 64, stacked q 0 (by omega) a d * k (ix2 j (⟨d.val, by omega⟩ : Fin 128))) (⊥ : EReal) := by
  pointwise [k0_pay6, k0_pay4]
  rw [fill]
  refine congrArg (fun x : EReal => Scalar.select (k0_pay2 i (ix2 a j)) x (⊥ : EReal)) (Finset.sum_congr rfl fun d _ => congrArg (fun x : EReal => x * _) ?_)
  exact stacked_eq q 0 (by omega) a d ⟨d.val, by omega⟩ ⟨64 + d.val, by omega⟩ (by simp) (by simp)

/-- A context score of the first pair of heads. -/
theorem ctx0_at (q : FVec Ideal S128x256 .bf16) (k : FVec Ideal S256x128 .bf16) (a : Fin 256) (j : Fin 256) :
    k0_pay7 (F := Ideal) q k (ix2 a j) = ∑ d : Fin 64, stacked q 0 (by omega) a d * k (ix2 j (⟨d.val, by omega⟩ : Fin 128)) := by
  pointwise [k0_pay7, k0_pay4]
  refine Finset.sum_congr rfl fun d _ => congrArg (fun x : EReal => x * _) ?_
  exact stacked_eq q 0 (by omega) a d ⟨d.val, by omega⟩ ⟨64 + d.val, by omega⟩ (by simp) (by simp)

/-- A local score of the second pair of heads. -/
theorem loc1_at (q : FVec Ideal S128x256 .bf16) (k : FVec Ideal S384x128 .bf16) (f : IVec S256x384 1) (a : Fin 256) (j : Fin 384) :
    k0_pay13 (F := Ideal) q k f (ix2 a j) =
      Scalar.select (f (ix2 a j)) (∑ d : Fin 64, stacked q 128 (by omega) a d * k (ix2 j (⟨64 + d.val, by omega⟩ : Fin 128))) (⊥ : EReal) := by
  pointwise [k0_pay13, k0_pay11]
  rw [fill]
  refine congrArg (fun x : EReal => Scalar.select (f (ix2 a j)) x (⊥ : EReal)) (Finset.sum_congr rfl fun d _ => congrArg (fun x : EReal => x * _) ?_)
  exact stacked_eq q 128 (by omega) a d ⟨128 + d.val, by omega⟩ ⟨192 + d.val, by omega⟩ (by simp) (by simp)

/-- A context score of the second pair of heads. -/
theorem ctx1_at (q : FVec Ideal S128x256 .bf16) (k : FVec Ideal S256x128 .bf16) (a : Fin 256) (j : Fin 256) :
    k0_pay14 (F := Ideal) q k (ix2 a j) = ∑ d : Fin 64, stacked q 128 (by omega) a d * k (ix2 j (⟨64 + d.val, by omega⟩ : Fin 128)) := by
  pointwise [k0_pay14, k0_pay11]
  refine Finset.sum_congr rfl fun d _ => congrArg (fun x : EReal => x * _) ?_
  exact stacked_eq q 128 (by omega) a d ⟨128 + d.val, by omega⟩ ⟨192 + d.val, by omega⟩ (by simp) (by simp)

/-- The softmax of the first pair of heads. -/
theorem pair0_at (v : FVec Ideal S256x128 .bf16) (f : IVec S256x1 1) (w : FVec Ideal S384x64 .bf16) (L : FVec Ideal S256x384 .f32)
    (C : FVec Ideal S256x256 .f32) (s0 s1 : EReal) (a : Fin 256) (d : Fin 64) :
    k0_pay8 (F := Ideal) v f w L C s0 s1 (ix2 a d) =
      late (fun j : Fin 384 => L (ix2 a j)) (fun j => w (ix2 j d)) (fun k : Fin 256 => C (ix2 a k))
        (fun k => v (ix2 k ⟨d.val, by omega⟩)) (Scalar.select (f (ix2 a 0)) s0 s1) := by
  unfold late Softmax.norm shift top wt
  rw [← neg_inf]
  pointwise [k0_pay8]

/-- The second pair of heads over its 256 stacked rows, before the four heads are laid side by side. -/
def pairOut (v : FVec Ideal S256x128 .bf16) (f : IVec S256x1 1) (w : FVec Ideal S384x64 .bf16)
    (L : FVec Ideal S256x384 .f32) (C : FVec Ideal S256x256 .f32) (s1 : EReal) (s0 : FVec Ideal S256x1 .f32) : FVec Ideal S256x64 .f32 :=
  have v86 : FVec Ideal S256x1 .f32 := broadcast S256x1 (show Elt Ideal .f32 from s1)
  have v87 : FVec Ideal S256x1 .f32 := select f s0 v86
  have v88 : FVec Ideal S256x64 .bf16 := extractStridedSlice S256x64 ![0, 64] v slices_S256x128_o0_64_S256x64
  have v89 : FVec Ideal S256 .f32 := multiReduction .maximumf [1] S256 L 0xFF800000#32 reduces_S256x384_S256 (.inl rfl) rfl
  have v90 : FVec Ideal S256x1 .f32 := shapeCast S256x1 v89 shapeCasts_S256_S256x1
  have v91 : FVec Ideal S256 .f32 := multiReduction .maximumf [1] S256 C 0xFF800000#32 reduces_S256x256_S256 (.inl rfl) rfl
  have v92 : FVec Ideal S256x1 .f32 := shapeCast S256x1 v91 shapeCasts_S256_S256x1
  have v93 : FVec Ideal S256x1 .f32 := maximumf v90 v92
  have v94 : FVec Ideal S256x1 .f32 := maximumf v93 v87
  have v95 : FVec Ideal S256x384 .f32 := broadcastTo S256x384 v94 broadcasts_S256x1_S256x384
  have v96 : FVec Ideal S256x384 .f32 := subf L v95
  have v97 : FVec Ideal S256x384 .f32 := exp v96
  have v98 : FVec Ideal S256 .f32 := multiReduction .add [1] S256 v97 0x00000000#32 reduces_S256x384_S256 (.inl rfl) rfl
  have v99 : FVec Ideal S256x1 .f32 := shapeCast S256x1 v98 shapeCasts_S256_S256x1
  have v100 : FVec Ideal S256x384 .bf16 := truncf .bf16 v97 bitsLt_bf16_f32
  have cst_24 : FVec Ideal S256x64 .f32 := constant S256x64 .f32 0x00000000#32
  have v101 : FVec Ideal S256x64 .f32 := matmul dot_S256x384_S384x64_S256x64_1_0_0_1_n_n none v100 w cst_24
  have v102 : FVec Ideal S256x256 .f32 := broadcastTo S256x256 v94 broadcasts_S256x1_S256x256
  have v103 : FVec Ideal S256x256 .f32 := subf C v102
  have v104 : FVec Ideal S256x256 .f32 := exp v103
  have v105 : FVec Ideal S256 .f32 := multiReduction .add [1] S256 v104 0x00000000#32 reduces_S256x256_S256 (.inl rfl) rfl
  have v106 : FVec Ideal S256x1 .f32 := shapeCast S256x1 v105 shapeCasts_S256_S256x1
  have v107 : FVec Ideal S256x1 .f32 := addf v99 v106
  have v108 : FVec Ideal S256x256 .bf16 := truncf .bf16 v104 bitsLt_bf16_f32
  have cst_26 : FVec Ideal S256x64 .f32 := constant S256x64 .f32 0x00000000#32
  have v109 : FVec Ideal S256x64 .f32 := matmul dot_S256x256_S256x64_S256x64_1_0_0_1_n_n none v108 v88 cst_26
  have v110 : FVec Ideal S256x64 .f32 := addf v101 v109
  have v111 : FVec Ideal S256x1 .f32 := subf v87 v94
  have v112 : FVec Ideal S256x1 .f32 := exp v111
  have v113 : FVec Ideal S256x1 .f32 := addf v107 v112
  have v114 : FVec Ideal S256x64 .f32 := broadcastTo S256x64 v113 broadcasts_S256x1_S256x64
  have v115 : FVec Ideal S256x64 .f32 := divf v110 v114
  v115

theorem out_eq (v : FVec Ideal S256x128 .bf16) (f : IVec S256x1 1) (o0 o1 : FVec Ideal S128x64 .f32) (w : FVec Ideal S384x64 .bf16)
    (L : FVec Ideal S256x384 .f32) (C : FVec Ideal S256x256 .f32) (s1 : EReal) (s0 : FVec Ideal S256x1 .f32) :
    k0_pay1 (F := Ideal) v f o0 o1 w L C s1 s0 =
      truncf .bf16 (concatenate S128x256 1 [⟨S128x64, o0⟩, ⟨S128x64, o1⟩,
        ⟨S128x64, extractStridedSlice S128x64 ![0, 0] (pairOut v f w L C s1 s0) slices_S256x64_o0_0_S128x64⟩,
        ⟨S128x64, extractStridedSlice S128x64 ![128, 0] (pairOut v f w L C s1 s0) slices_S256x64_o128_0_S128x64⟩]
        concatenates_S128x64_S128x64_S128x64_S128x64_S128x256_d1) bitsLt_bf16_f32 := rfl

/-- The softmax of the second pair of heads. -/
theorem pair1_at (v : FVec Ideal S256x128 .bf16) (f : IVec S256x1 1) (w : FVec Ideal S384x64 .bf16) (L : FVec Ideal S256x384 .f32)
    (C : FVec Ideal S256x256 .f32) (s1 : EReal) (s0 : FVec Ideal S256x1 .f32) (a : Fin 256) (d : Fin 64) :
    pairOut v f w L C s1 s0 (ix2 a d) =
      late (fun j : Fin 384 => L (ix2 a j)) (fun j => w (ix2 j d)) (fun k : Fin 256 => C (ix2 a k))
        (fun k => v (ix2 k ⟨64 + d.val, by omega⟩)) (Scalar.select (f (ix2 a 0)) (s0 (ix2 a 0)) s1) := by
  unfold late Softmax.norm shift top wt
  rw [← neg_inf]
  pointwise [pairOut]

/-- The four heads side by side. -/
theorem out_at (v : FVec Ideal S256x128 .bf16) (f : IVec S256x1 1) (o0 o1 : FVec Ideal S128x64 .f32) (w : FVec Ideal S384x64 .bf16)
    (L : FVec Ideal S256x384 .f32) (C : FVec Ideal S256x256 .f32) (s1 : EReal) (s0 : FVec Ideal S256x1 .f32) (r : Fin 128) (c : Fin 256) :
    k0_pay1 (F := Ideal) v f o0 o1 w L C s1 s0 (ix2 r c) =
      if h0 : c.val < 64 then o0 (ix2 r ⟨c.val, h0⟩)
      else if h1 : c.val - 64 < 64 then o1 (ix2 r ⟨c.val - 64, h1⟩)
      else if h2 : c.val - 64 - 64 < 64 then pairOut v f w L C s1 s0 (ix2 ⟨r.val, by omega⟩ ⟨c.val - 64 - 64, h2⟩)
      else pairOut v f w L C s1 s0 (ix2 ⟨128 + r.val, by omega⟩ ⟨c.val - 64 - 64 - 64, by omega⟩) := by
  rw [out_eq]
  pointwise

end Cert.WattnIdeal.KVal

end
-- ==== Proof.WattnRef.lean ====
/-
  Window attention, the reference: its composed term `REF`, cut into stages, and what it is at an entry, the softmax
  attention of one query to the keys it sees.
-/
module

public import proofs.«01_k».proof.Proof.WattnWindow
public import proofs.«01_k».proof.Proof.Gen.WattnIdeal.Value
public import proofs.«01_k».proof.Proof.Gen.WattnRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WattnRefIdeal.Part

open Cert.WattnRefIdeal Cert.WattnRefIdeal.Gen Cert.Softmax Cert.Window

/-- The latent keys, every key head standing for two query heads, with 128 rows of zeros before and after. -/
def kpad (X : FVec Ideal S18432x384 .bf16) : FVec Ideal S8x2304x4x64 .f32 :=
  (pad S8x2304x4x64 ![0, 128, 0, 0] ![0, 128, 0, 0] ![0, 0, 0, 0] (shapeCast _ (broadcastInDim S8x2048x2x2x64 ![0, 1, 2, 4] bcast_S8x2048x2x64_S8x2048x2x2x64_0_1_2_4 (shapeCast _ (extractStridedSlice S16384x128 ![0, 256] (extf .f32 X bitsLt_bf16_f32) slices_S18432x384_S16384x128_0_256) shapeCasts_S16384x128_S8x2048x2x64)) shapeCasts_S8x2048x2x2x64_S8x2048x4x64) (sitofp (F := Ideal) .f32 (constantI S_ 32 0#32)) pads_S8x2048x4x64_S8x2304x4x64_000_1281280_000_000 h_S_)

/-- The latent values, laid out like the keys. -/
def vpad (Y : FVec Ideal S18432x128 .bf16) : FVec Ideal S8x2304x4x64 .f32 :=
  (pad S8x2304x4x64 ![0, 128, 0, 0] ![0, 128, 0, 0] ![0, 0, 0, 0] (shapeCast _ (broadcastInDim S8x2048x2x2x64 ![0, 1, 2, 4] bcast_S8x2048x2x64_S8x2048x2x2x64_0_1_2_4 (shapeCast _ (extractStridedSlice S16384x128 ![0, 0] (extf .f32 Y bitsLt_bf16_f32) slices_S18432x128_S16384x128_0_0) shapeCasts_S16384x128_S8x2048x2x64)) shapeCasts_S8x2048x2x2x64_S8x2048x4x64) (sitofp (F := Ideal) .f32 (constantI S_ 32 0#32)) pads_S8x2048x4x64_S8x2304x4x64_000_1281280_000_000 h_S_)

/-- Which keys of a block and its two neighbours a query of the block sees. -/
def valid : IVec S16x128x384 1 :=
  (andi (andi (cmpi .sle (absi (subi (broadcastInDim S16x128x384 ![0, 1, 2] bcast_S16x128x1_S16x128x384_0_1_2 (broadcastInDim S16x128x1 ![0, 1] bcast_S16x128_S16x128x1_0_1 (addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))))) (broadcastInDim S16x128x384 ![0, 1, 2] bcast_S16x1x384_S16x128x384_0_1_2 (broadcastInDim S16x1x384 ![0, 2] bcast_S16x384_S16x1x384_0_2 (addi (broadcastInDim S16x384 ![0, 1] bcast_S16x1_S16x384_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))))))) (broadcastInDim S16x128x384 ![] bcast_S_S16x128x384 (constantI S_ 32 128#32))) (broadcastInDim S16x128x384 ![0, 1, 2] bcast_S16x1x384_S16x128x384_0_1_2 (broadcastInDim S16x1x384 ![0, 2] bcast_S16x384_S16x1x384_0_2 (cmpi .sge (addi (broadcastInDim S16x384 ![0, 1] bcast_S16x1_S16x384_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))) (broadcastInDim S16x384 ![] bcast_S_S16x384 (constantI S_ 32 0#32)))))) (broadcastInDim S16x128x384 ![0, 1, 2] bcast_S16x1x384_S16x128x384_0_1_2 (broadcastInDim S16x1x384 ![0, 2] bcast_S16x384_S16x1x384_0_2 (cmpi .slt (addi (broadcastInDim S16x384 ![0, 1] bcast_S16x1_S16x384_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))) (broadcastInDim S16x384 ![] bcast_S_S16x384 (constantI S_ 32 2048#32))))))

/-- The scores of the block's queries against the keys of the block and its neighbours. -/
def loc (X : FVec Ideal S18432x384 .bf16) : FVec Ideal S8x16x4x128x384 .f32 :=
  (Host.dotGeneral dot_S8x16x128x4x64_S8x16x384x4x64_S8x16x4x128x384_4_4_2_2_013_013 none (shapeCast _ (extractStridedSlice S16384x256 ![0, 0] (extf .f32 X bitsLt_bf16_f32) slices_S18432x384_S16384x256_0_0) shapeCasts_S16384x256_S8x16x128x4x64) ((concatenate S8x16x384x4x64 2 [⟨S8x16x128x4x64, ((extractStridedSlice S8x16x128x4x64 ![0, 0, 0, 0, 0] (shapeCast _ (kpad X) shapeCasts_S8x2304x4x64_S8x18x128x4x64) slices_S8x18x128x4x64_S8x16x128x4x64_0_0_0_0_0))⟩, ⟨S8x16x128x4x64, ((extractStridedSlice S8x16x128x4x64 ![0, 1, 0, 0, 0] (shapeCast _ (kpad X) shapeCasts_S8x2304x4x64_S8x18x128x4x64) slices_S8x18x128x4x64_S8x16x128x4x64_0_1_0_0_0))⟩, ⟨S8x16x128x4x64, ((extractStridedSlice S8x16x128x4x64 ![0, 2, 0, 0, 0] (shapeCast _ (kpad X) shapeCasts_S8x2304x4x64_S8x18x128x4x64) slices_S8x18x128x4x64_S8x16x128x4x64_0_2_0_0_0))⟩] concatenates_S8x16x128x4x64_S8x16x128x4x64_S8x16x128x4x64_S8x16x384x4x64_d2)))

/-- The scores of the queries against the context keys. -/
def ctx (X : FVec Ideal S18432x384 .bf16) : FVec Ideal S8x4x256x16x128 .f32 :=
  (Host.dotGeneral dot_S8x256x4x64_S8x16x128x4x64_S8x4x256x16x128_3_4_1_12_02_03 none (shapeCast _ (broadcastInDim S8x256x2x2x64 ![0, 1, 2, 4] bcast_S8x256x2x64_S8x256x2x2x64_0_1_2_4 (shapeCast _ (extractStridedSlice S2048x128 ![16384, 256] (extf .f32 X bitsLt_bf16_f32) slices_S18432x384_S2048x128_16384_256) shapeCasts_S2048x128_S8x256x2x64)) shapeCasts_S8x256x2x2x64_S8x256x4x64) (shapeCast _ (extractStridedSlice S16384x256 ![0, 0] (extf .f32 X bitsLt_bf16_f32) slices_S18432x384_S16384x256_0_0) shapeCasts_S16384x256_S8x16x128x4x64))

/-- All scores of a query: local ones (masked), context, sink. -/
def scores (A : FVec Ideal S4 .f32) (X : FVec Ideal S18432x384 .bf16) : FVec Ideal S8x16x4x128x641 .f32 :=
  (concatenate S8x16x4x128x641 4 [⟨S8x16x4x128x384, ((select (broadcastInDim S8x16x4x128x384 ![0, 1, 2, 3, 4] bcast_S1x16x1x128x384_S8x16x4x128x384_0_1_2_3_4 (broadcastInDim S1x16x1x128x384 ![1, 3, 4] bcast_S16x128x384_S1x16x1x128x384_1_3_4 valid)) (loc X) (broadcastInDim S8x16x4x128x384 ![] bcast_S_S8x16x4x128x384 (id (constant (F := Ideal) S_ .f32 0xFF800000#32)))))⟩, ⟨S8x16x4x128x256, ((transpose S8x16x4x128x256 [0, 3, 1, 4, 2] (ctx X) transposes_S8x4x256x16x128_S8x16x4x128x256_0_3_1_4_2))⟩, ⟨S8x16x4x128x1, ((broadcastInDim S8x16x4x128x1 ![0, 1, 2, 3, 4] bcast_S1x1x4x1x1_S8x16x4x128x1_0_1_2_3_4 (shapeCast _ A shapeCasts_S4_S1x1x4x1x1)))⟩] concatenates_S8x16x4x128x384_S8x16x4x128x256_S8x16x4x128x1_S8x16x4x128x641_d4)

/-- The greatest score of every row. -/
def rowmax (S : FVec Ideal S8x16x4x128x641 .f32) : FVec Ideal S8x16x4x128 .f32 :=
  (Host.reduce FloatOps.maximumf S (constant (F := Ideal) S_ .f32 0xFF800000#32) reducesTo_S8x16x4x128x641_S8x16x4x128_d4 h_S_)

/-- The greatest score of every row, taken from −∞ once more. -/
def rowtop (S : FVec Ideal S8x16x4x128x641 .f32) : FVec Ideal S8x16x4x128 .f32 :=
  (maximumf (broadcastInDim S8x16x4x128 ![] bcast_S_S8x16x4x128 (constant (F := Ideal) S_ .f32 0xFF800000#32)) (rowmax S))

/-- The exponentials of the scores less the greatest. -/
def expo (S : FVec Ideal S8x16x4x128x641 .f32) : FVec Ideal S8x16x4x128x641 .f32 :=
  (Host.exp (subf S (broadcastInDim S8x16x4x128x641 ![0, 1, 2, 3, 4] bcast_S8x16x4x128x1_S8x16x4x128x641_0_1_2_3_4 (broadcastInDim S8x16x4x128x1 ![0, 1, 2, 3] bcast_S8x16x4x128_S8x16x4x128x1_0_1_2_3 (rowtop S)))))

/-- A family over the keys, divided by its sum. -/
def quot (E : FVec Ideal S8x16x4x128x641 .f32) : FVec Ideal S8x16x4x128x641 .f32 :=
  (Host.divf E (broadcastInDim S8x16x4x128x641 ![0, 1, 2, 3, 4] bcast_S8x16x4x128x1_S8x16x4x128x641_0_1_2_3_4 (broadcastInDim S8x16x4x128x1 ![0, 1, 2, 3] bcast_S8x16x4x128_S8x16x4x128x1_0_1_2_3 (Host.reduceAdd E (constant (F := Ideal) S_ .f32 0x00000000#32) reducesTo_S8x16x4x128x641_S8x16x4x128_d4 h_S_))))

/-- The softmax of the scores. -/
def prob (A : FVec Ideal S4 .f32) (X : FVec Ideal S18432x384 .bf16) : FVec Ideal S8x16x4x128x641 .f32 := quot (expo (scores A X))

/-- The values of a block and its neighbours. -/
def vals (Y : FVec Ideal S18432x128 .bf16) : FVec Ideal S8x16x384x4x64 .f32 :=
  (concatenate S8x16x384x4x64 2 [⟨S8x16x128x4x64, ((extractStridedSlice S8x16x128x4x64 ![0, 0, 0, 0, 0] (shapeCast _ (vpad Y) shapeCasts_S8x2304x4x64_S8x18x128x4x64) slices_S8x18x128x4x64_S8x16x128x4x64_0_0_0_0_0))⟩, ⟨S8x16x128x4x64, ((extractStridedSlice S8x16x128x4x64 ![0, 1, 0, 0, 0] (shapeCast _ (vpad Y) shapeCasts_S8x2304x4x64_S8x18x128x4x64) slices_S8x18x128x4x64_S8x16x128x4x64_0_1_0_0_0))⟩, ⟨S8x16x128x4x64, ((extractStridedSlice S8x16x128x4x64 ![0, 2, 0, 0, 0] (shapeCast _ (vpad Y) shapeCasts_S8x2304x4x64_S8x18x128x4x64) slices_S8x18x128x4x64_S8x16x128x4x64_0_2_0_0_0))⟩] concatenates_S8x16x128x4x64_S8x16x128x4x64_S8x16x128x4x64_S8x16x384x4x64_d2)

/-- The reference's result as a function of its three arguments. -/
def REF (A : FVec Ideal S4 .f32) (X : FVec Ideal S18432x384 .bf16) (Y : FVec Ideal S18432x128 .bf16) : FVec Ideal S16384x256 .bf16 :=
  truncf .bf16 (shapeCast _ (addf (transpose S8x16x128x4x64 [0, 1, 4, 2, 3] (Host.dotGeneral dot_S8x16x384x4x64_S8x16x4x128x384_S8x16x4x64x128_2_4_4_3_013_012 none ((vals Y)) (extractStridedSlice S8x16x4x128x384 ![0, 0, 0, 0, 0] (prob A X) slices_S8x16x4x128x641_S8x16x4x128x384_0_0_0_0_0)) transposes_S8x16x4x64x128_S8x16x128x4x64_0_1_4_2_3) (transpose S8x16x128x4x64 [0, 3, 4, 1, 2] (Host.dotGeneral dot_S8x256x4x64_S8x16x4x128x256_S8x4x64x16x128_1_4_3_13_02_02 none (shapeCast _ (broadcastInDim S8x256x2x2x64 ![0, 1, 2, 4] bcast_S8x256x2x64_S8x256x2x2x64_0_1_2_4 (shapeCast _ (extractStridedSlice S2048x128 ![16384, 0] (extf .f32 Y bitsLt_bf16_f32) slices_S18432x128_S2048x128_16384_0) shapeCasts_S2048x128_S8x256x2x64)) shapeCasts_S8x256x2x2x64_S8x256x4x64) (extractStridedSlice S8x16x4x128x256 ![0, 0, 0, 0, 384] (prob A X) slices_S8x16x4x128x641_S8x16x4x128x256_0_0_0_0_384)) transposes_S8x4x64x16x128_S8x16x128x4x64_0_3_4_1_2)) shapeCasts_S8x16x128x4x64_S16384x256) bitsLt_bf16_f32

/-- The generated name of the reference's result unfolds to `REF` of the arguments. -/
theorem res_eq (m : (ℓ : Loc nD τ sig) → Buf (Elt Ideal) ℓ) (c : Dev nD) :
    Cert.WattnRefIdeal.Value.res_main_v97 m c = REF (m ((c.tc : Thread nD τ).loc main_arg0)) (m ((c.tc : Thread nD τ).loc main_arg1)) (m ((c.tc : Thread nD τ).loc main_arg2)) := by
  unfold Cert.WattnRefIdeal.Value.res_main_v97 REF prob quot expo rowtop rowmax scores loc ctx valid vals kpad vpad
  rfl

variable (A : FVec Ideal S4 .f32) (X : FVec Ideal S18432x384 .bf16) (Y : FVec Ideal S18432x128 .bf16)

/-- The query of head `h` at row `r` of block `n` of sequence `b`. -/
def qrow (b : Fin 8) (n : Fin 16) (r : Fin 128) (h : Fin 4) (d : Fin 64) : EReal :=
  X (ix2 ⟨b.val * 2048 + n.val * 128 + r.val, by omega⟩ ⟨h.val * 64 + d.val, by omega⟩)

/-- The key at a padded position, zero outside the sequence. -/
def krow (b : Fin 8) (h : Fin 4) (p : Fin 2304) (d : Fin 64) : EReal :=
  if hp : 128 ≤ p.val ∧ p.val - 128 < 2048 then
    X (ix2 ⟨b.val * 2048 + (p.val - 128), by omega⟩ ⟨256 + (h.val / 2 * 64 + d.val), by omega⟩)
  else 0

/-- The value at a padded position, zero outside the sequence. -/
def vrow (b : Fin 8) (h : Fin 4) (d : Fin 64) (p : Fin 2304) : EReal :=
  if hp : 128 ≤ p.val ∧ p.val - 128 < 2048 then
    Y (ix2 ⟨b.val * 2048 + (p.val - 128), by omega⟩ ⟨h.val / 2 * 64 + d.val, by omega⟩)
  else 0

/-- The context score of key `k`. -/
def cscore (b : Fin 8) (n : Fin 16) (r : Fin 128) (h : Fin 4) (k : Fin 256) : EReal :=
  ∑ d : Fin 64, qrow X b n r h d * X (ix2 ⟨16384 + (b.val * 256 + k.val), by omega⟩ ⟨256 + (h.val / 2 * 64 + d.val), by omega⟩)

/-- The context value of key `k`. -/
def cval (b : Fin 8) (h : Fin 4) (d : Fin 64) (k : Fin 256) : EReal :=
  Y (ix2 ⟨16384 + (b.val * 256 + k.val), by omega⟩ ⟨h.val / 2 * 64 + d.val, by omega⟩)

theorem zero_pad : FloatOps.sitofp (F := Ideal) .f32 (0#32 : BitVec 32) = (0 : EReal) := by
  show (((0#32 : BitVec 32).toInt : ℝ) : EReal) = 0
  simp

theorem kpad_at (b : Fin 8) (p : Fin 2304) (h : Fin 4) (d : Fin 64) : kpad X (ix4 b p h d) = krow X b h p d := by
  pointwise [kpad, krow]
  rw [zero_pad]

theorem vpad_at (b : Fin 8) (p : Fin 2304) (h : Fin 4) (d : Fin 64) : vpad Y (ix4 b p h d) = vrow Y b h d p := by
  pointwise [vpad, vrow]
  rw [zero_pad]

theorem valid_at (n : Fin 16) (r : Fin 128) (j : Fin 384) :
    valid (ix3 n r j) = if Sees (128 * n.val + r.val) (128 * n.val + j.val) then 1#1 else 0#1 := by
  pointwise [valid]
  exact mask_padded n.val r.val j.val n.isLt r.isLt j.isLt

/-- A block of 384 padded positions is read in three pieces. -/
theorem pieces {α : Type} (f : Fin 2304 → α) (n : Fin 16) (j : Fin 384)
    (h0 : j.val < 128 → n.val * 128 + j.val < 2304) (h1 : ¬ j.val < 128 → j.val - 128 < 128 → (1 + n.val) * 128 + (j.val - 128) < 2304)
    (h2 : ¬ j.val < 128 → ¬ j.val - 128 < 128 → (2 + n.val) * 128 + (j.val - 128 - 128) < 2304) (h3 : 128 * n.val + j.val < 2304) :
    (if h : j.val < 128 then f ⟨n.val * 128 + j.val, h0 h⟩
      else if h' : j.val - 128 < 128 then f ⟨(1 + n.val) * 128 + (j.val - 128), h1 h h'⟩
      else f ⟨(2 + n.val) * 128 + (j.val - 128 - 128), h2 h h'⟩) = f ⟨128 * n.val + j.val, h3⟩ := by
  split
  · congr 2; omega
  · split <;> (congr 2; omega)

theorem loc_at (b : Fin 8) (n : Fin 16) (h : Fin 4) (r : Fin 128) (j : Fin 384) :
    loc X (ix5 b n h r j) = ∑ d, qrow X b n r h d * krow X b h ⟨128 * n.val + j.val, by omega⟩ d := by
  pointwise [loc]
  simp only [kpad_at]
  refine Finset.sum_congr rfl fun d _ => ?_
  exact congrArg (qrow X b n r h d * ·) (pieces (fun p => krow X b h p d) n j _ _ _ _)

theorem vals_at (b : Fin 8) (n : Fin 16) (h : Fin 4) (d : Fin 64) (j : Fin 384) :
    vals Y (ix5 b n j h d) = vrow Y b h d ⟨128 * n.val + j.val, by omega⟩ := by
  pointwise [vals]
  simp only [vpad_at]
  exact pieces (fun p => vrow Y b h d p) n j _ _ _ _

theorem ctx_at (b : Fin 8) (n : Fin 16) (h : Fin 4) (r : Fin 128) (k : Fin 256) :
    ctx X (ix5 b h k n r) = cscore X b n r h k := by
  pointwise [ctx]
  exact Finset.sum_congr rfl fun d _ => mul_comm _ _

/-- The local score of key `j` of the three blocks. -/
def lscore (b : Fin 8) (n : Fin 16) (r : Fin 128) (h : Fin 4) (j : Fin 384) : EReal :=
  if Sees (128 * n.val + r.val) (128 * n.val + j.val) then
    ∑ d, qrow X b n r h d * krow X b h ⟨128 * n.val + j.val, by omega⟩ d
  else ⊥

theorem scores_at (b : Fin 8) (n : Fin 16) (h : Fin 4) (r : Fin 128) (k : Fin 641) :
    scores A X (ix5 b n h r k) =
      if h1 : k.val < 384 then lscore X b n r h ⟨k.val, h1⟩
      else if h2 : k.val - 384 < 256 then cscore X b n r h ⟨k.val - 384, h2⟩ else A (ix1 h) := by
  pointwise [scores]
  by_cases h1 : k.val < 384
  · rw [dif_pos h1, dif_pos h1, valid_at, loc_at]
    unfold lscore
    by_cases h : Sees (128 * n.val + r.val) (128 * n.val + k.val)
    · rw [if_pos h, if_pos h]; rfl
    · rw [if_neg h, if_neg h]; exact neg_inf
  · rw [dif_neg h1, dif_neg h1]
    by_cases h2 : k.val - 384 < 256
    · rw [dif_pos h2, dif_pos h2, ctx_at]
    · rw [dif_neg h2, dif_neg h2]

end Cert.WattnRefIdeal.Part

end
-- ==== Proof.WattnRefSoft.lean ====
/-
  Window attention, the reference's softmax read at an entry.
-/
module

public import proofs.«01_k».proof.Proof.WattnRef
public import proofs.«01_k».proof.Proof.Gen.WattnIdeal.Value
public import proofs.«01_k».proof.Proof.Gen.WattnRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WattnRefIdeal.Part

open Cert.WattnRefIdeal Cert.WattnRefIdeal.Gen Cert.Softmax Cert.Window

/-- A host maximum over the last of five axes, from −∞. -/
theorem hostMax {n0 n1 n2 n3 n4 : ℕ} {u : Shape} (x : FVec Ideal ⟨5, ![n0, n1, n2, n3, n4]⟩ .f32) (z : FVec Ideal u .f32)
    (h : (⟨5, ![n0, n1, n2, n3, n4]⟩ : Shape).ReducesTo [4] ⟨4, ![n0, n1, n2, n3]⟩) (hu : 0 < u.numel)
    (hz : ∀ i, z i = (⊥ : EReal)) (a : Fin n0) (b : Fin n1) (c : Fin n2) (d : Fin n3) :
    Host.reduce FloatOps.maximumf x z h hu (ix4 a b c d) = top fun k => x (ix5 a b c d k) := by
  refine (Host.reduce_eq_fold FloatOps.maximumf x z h hu (ix4 a b c d)).trans ?_
  refine (h.fold_fiber_r5_a4 (ix4 a b c d) FloatOps.maximumf (z (Shape.Idx.first hu)) x).trans ?_
  rw [hz]
  rfl

theorem rowmax_at (S : FVec Ideal S8x16x4x128x641 .f32) (b : Fin 8) (n : Fin 16) (h : Fin 4) (r : Fin 128) :
    rowmax S (ix4 b n h r) = top fun x => S (ix5 b n h r x) :=
  hostMax S _ _ _ (fun _ => neg_inf) b n h r

/-- A maximum with −∞ changes nothing. -/
theorem max_bot_at (z : FVec Ideal S8x16x4x128 .f32) (b : Fin 8) (n : Fin 16) (h : Fin 4) (r : Fin 128) :
    maximumf (broadcastInDim S8x16x4x128 ![] bcast_S_S8x16x4x128 (constant (F := Ideal) S_ .f32 0xFF800000#32)) z (ix4 b n h r)
      = z (ix4 b n h r) := by
  pointwise
  rw [neg_inf, max_eq_right bot_le]

theorem rowtop_at (S : FVec Ideal S8x16x4x128x641 .f32) (b : Fin 8) (n : Fin 16) (h : Fin 4) (r : Fin 128) :
    rowtop S (ix4 b n h r) = top fun x => S (ix5 b n h r x) :=
  (max_bot_at (rowmax S) b n h r).trans (rowmax_at S b n h r)

theorem expo_at (S : FVec Ideal S8x16x4x128x641 .f32) (b : Fin 8) (n : Fin 16) (h : Fin 4) (r : Fin 128) (k : Fin 641) :
    expo S (ix5 b n h r k) = Ideal.exp (S (ix5 b n h r k) - rowtop S (ix4 b n h r)) := by
  pointwise [expo]

theorem quot_at (E : FVec Ideal S8x16x4x128x641 .f32) (b : Fin 8) (n : Fin 16) (h : Fin 4) (r : Fin 128) (k : Fin 641) :
    quot E (ix5 b n h r k) = Ideal.div (E (ix5 b n h r k)) (∑ x : Fin 641, E (ix5 b n h r x)) := by
  pointwise [quot]

variable (A : FVec Ideal S4 .f32) (X : FVec Ideal S18432x384 .bf16) (Y : FVec Ideal S18432x128 .bf16)

section
variable (b : Fin 8) (n : Fin 16) (h : Fin 4) (r : Fin 128)

theorem score_loc (j : Fin 384) : scores A X (ix5 b n h r ⟨j.val, by omega⟩) = lscore X b n r h j := by
  rw [scores_at, dif_pos j.isLt]

theorem score_ctx (k : Fin 256) : scores A X (ix5 b n h r ⟨384 + k.val, by omega⟩) = cscore X b n r h k := by
  rw [scores_at, dif_neg (by dsimp only; omega), dif_pos (by dsimp only; omega)]
  congr 1
  exact Fin.ext (by dsimp only; omega)

theorem score_sink : scores A X (ix5 b n h r ⟨384 + 256, by omega⟩) = A (ix1 h) := by
  rw [scores_at, dif_neg (by dsimp only; omega), dif_neg (by dsimp only; omega)]

theorem top_scores : (top fun x => scores A X (ix5 b n h r x)) = shift (lscore X b n r h) (cscore X b n r h) (A (ix1 h)) :=
  top_three (n := 641) (a := 384) (b := 256) rfl _ _ _ _ (score_loc A X b n h r) (score_ctx A X b n h r) (score_sink A X b n h r)

/-- The softmax weight of a key. -/
theorem prob_at (k : Fin 641) : prob A X (ix5 b n h r k) =
    Ideal.div (wt (scores A X (ix5 b n h r k)) (shift (lscore X b n r h) (cscore X b n r h) (A (ix1 h))))
      (norm (lscore X b n r h) (cscore X b n r h) (A (ix1 h)) (shift (lscore X b n r h) (cscore X b n r h) (A (ix1 h)))) := by
  unfold prob
  rw [quot_at]
  simp only [expo_at, rowtop_at, top_scores]
  refine congrArg _ (sum_three (n := 641) (a := 384) (b := 256) rfl _ _ _ _ (fun j => ?_) (fun k => ?_) ?_)
  · exact congrArg (fun x => wt x (shift _ _ _)) (score_loc A X b n h r j)
  · exact congrArg (fun x => wt x (shift _ _ _)) (score_ctx A X b n h r k)
  · exact congrArg (fun x => wt x (shift _ _ _)) (score_sink A X b n h r)

theorem prob_loc (j : Fin 384) : prob A X (ix5 b n h r ⟨j.val, by omega⟩) =
    Ideal.div (wt (lscore X b n r h j) (shift (lscore X b n r h) (cscore X b n r h) (A (ix1 h))))
      (norm (lscore X b n r h) (cscore X b n r h) (A (ix1 h)) (shift (lscore X b n r h) (cscore X b n r h) (A (ix1 h)))) := by
  rw [prob_at, score_loc]

theorem prob_ctx (k : Fin 256) : prob A X (ix5 b n h r ⟨384 + k.val, by omega⟩) =
    Ideal.div (wt (cscore X b n r h k) (shift (lscore X b n r h) (cscore X b n r h) (A (ix1 h))))
      (norm (lscore X b n r h) (cscore X b n r h) (A (ix1 h)) (shift (lscore X b n r h) (cscore X b n r h) (A (ix1 h)))) := by
  rw [prob_at, score_ctx]

end

/-- The reference at an entry: column `g` of the queries, lane `d % 64` of head `d / 64`. -/
theorem REF_early (g : Fin 16384) (d : Fin 256) (b : Fin 8) (n : Fin 16) (r : Fin 128) (h : Fin 4) (e : Fin 64)
    (hb : b.val = g.val / 2048) (hn : n.val = g.val / 128 % 16) (hr : r.val = g.val % 128) (hh : h.val = d.val / 64)
    (he : e.val = d.val % 64) :
    REF A X Y (ix2 g d) = early (lscore X b n r h) (fun j => vrow Y b h e ⟨128 * n.val + j.val, by omega⟩)
      (cscore X b n r h) (cval Y b h e) (A (ix1 h)) := by
  have hb' : g.val / 2048 < 8 := hb ▸ b.isLt
  obtain rfl : b = ⟨g.val / 2048, hb'⟩ := Fin.ext hb
  have hn' : g.val / 128 % 16 < 16 := hn ▸ n.isLt
  obtain rfl : n = ⟨g.val / 128 % 16, hn'⟩ := Fin.ext hn
  have hr' : g.val % 128 < 128 := hr ▸ r.isLt
  obtain rfl : r = ⟨g.val % 128, hr'⟩ := Fin.ext hr
  have hh' : d.val / 64 < 4 := hh ▸ h.isLt
  obtain rfl : h = ⟨d.val / 64, hh'⟩ := Fin.ext hh
  have he' : d.val % 64 < 64 := he ▸ e.isLt
  obtain rfl : e = ⟨d.val % 64, he'⟩ := Fin.ext he
  unfold early
  pointwise [REF]
  refine congrArg₂ _ (Finset.sum_congr rfl fun j _ => ?_) (Finset.sum_congr rfl fun k _ => ?_)
  · exact (congrArg₂ (fun x y : EReal => x * y) (vals_at Y ⟨_, hb'⟩ ⟨_, hn'⟩ ⟨_, hh'⟩ ⟨_, he'⟩ j)
      (prob_loc A X ⟨_, hb'⟩ ⟨_, hn'⟩ ⟨_, hh'⟩ ⟨_, hr'⟩ j)).trans (mul_comm _ _)
  · exact (congrArg (fun y : EReal => cval Y ⟨_, hb'⟩ ⟨_, hh'⟩ ⟨_, he'⟩ k * y)
      (prob_ctx A X ⟨_, hb'⟩ ⟨_, hn'⟩ ⟨_, hh'⟩ ⟨_, hr'⟩ k)).trans (mul_comm _ _)

end Cert.WattnRefIdeal.Part

end
-- ==== Proof.WattnValue.lean ====
/-
  Window attention, the kernel's result array: where a grid point reads, its block at an entry as the windowed attention
  of one query, and the equation with the reference.
-/
module

public import proofs.«01_k».proof.Proof.WattnBlock
public import proofs.«01_k».proof.Proof.WattnRefSoft

@[expose] public section

set_option maxRecDepth 16384

noncomputable section

open Idealize.ShloMosaic Idealize.ShloMosaic.TcCoe Idealize.SL.Sem
open Idealize.ShloMosaic.Pipeline (Dat)

namespace Cert.WattnIdeal.KVal

open Cert.WattnIdeal Cert.WattnIdeal.Gen Cert.Softmax Cert.Window
open Cert.WattnRefIdeal.Part (REF REF_early qrow krow vrow cscore cval lscore)

variable (m : (ℓ : Loc nD τ sig) → Buf (Elt Ideal) ℓ)

/-- Point `t` holds block `t % 16` of batch `t / 16`. -/
theorem idx : ∀ t : Fin cfg0.N,
    win0_0.index t = ![0] ∧ win0_1.index t = ![t.val, 0] ∧ win0_2.index t = ![t.val / 16, 0] ∧ win0_3.index t = ![t.val / 16, 0]
      ∧ win0_4.index t = ![64 + t.val / 16, 0] ∧ win0_5.index t = ![64 + t.val / 16, 0] ∧ win0_6.index t = ![t.val, 0]
      ∧ (grid0.coords t 1).val = t.val % 16
      ∧ k0_off1 (grid0.coords t) = ![start (t.val % 16), 256] ∧ k0_off2 (grid0.coords t) = ![start (t.val % 16), 0] :=
  (by decide +kernel : ∀ t : Fin grid0.N, _)

/-- A grid point's block over the arrays it reads. -/
def block (i : grid0.Coords) (s : Fin 4 → EReal) (q : FVec Ideal S128x256 .bf16) (k v : FVec Ideal S384x128 .bf16)
    (ck cv : FVec Ideal S256x128 .bf16) : FVec Ideal S128x256 .bf16 :=
  k0_pay1 cv k0_pay3 (k0_pay9 cv k0_pay3 (k0_pay5 v) (k0_pay6 i q k) (k0_pay7 q ck) (s 0) (s 1))
    (k0_pay10 cv k0_pay3 (k0_pay5 v) (k0_pay6 i q k) (k0_pay7 q ck) (s 0) (s 1)) (k0_pay12 v) (k0_pay13 q k (k0_pay2 i))
    (k0_pay14 q ck) (s 3) (k0_pay15 (s 2))

theorem late_congr {J K : Type} [Fintype J] [Fintype K] {L L' V V' : J → EReal} {C C' W W' : K → EReal} {s s' : EReal}
    (hL : ∀ j, L j = L' j) (hV : ∀ j, V j = V' j) (hC : ∀ k, C k = C' k) (hW : ∀ k, W k = W' k) (hs : s = s') :
    late L V C W s = late L' V' C' W' s' := by
  rw [funext hL, funext hV, funext hC, funext hW, hs]

/-- What the block holds for row `r`, head `h`, lane `e`: the attention of that row to the 384 keys loaded, to the 256
    context keys and to the head's sink. -/
def att (i : grid0.Coords) (s : Fin 4 → EReal) (q : FVec Ideal S128x256 .bf16) (k v : FVec Ideal S384x128 .bf16)
    (ck cv : FVec Ideal S256x128 .bf16) (r : Fin 128) (h : Fin 4) (e : Fin 64) : EReal :=
  late
    (fun j : Fin 384 => if Sees (128 * (i 1).val + r.val) (start (i 1).val + 128 + j.val)
      then ∑ d : Fin 64, (q (ix2 r ⟨h.val * 64 + d.val, by omega⟩) : EReal) * k (ix2 j ⟨h.val / 2 * 64 + d.val, by omega⟩) else ⊥)
    (fun j => v (ix2 j ⟨h.val / 2 * 64 + e.val, by omega⟩))
    (fun x : Fin 256 => ∑ d : Fin 64, (q (ix2 r ⟨h.val * 64 + d.val, by omega⟩) : EReal) * ck (ix2 x ⟨h.val / 2 * 64 + d.val, by omega⟩))
    (fun x => cv (ix2 x ⟨h.val / 2 * 64 + e.val, by omega⟩)) (s h)

theorem select_if {p : Prop} [Decidable p] {x y : EReal} :
    Scalar.select (if p then 1#1 else 0#1) x y = if p then x else y := by
  by_cases h : p
  · rw [if_pos h, if_pos h]; rfl
  · rw [if_neg h, if_neg h]; rfl

section
variable (i : grid0.Coords) (s : Fin 4 → EReal) (q : FVec Ideal S128x256 .bf16) (k v : FVec Ideal S384x128 .bf16)
  (ck cv : FVec Ideal S256x128 .bf16)

/-- A stacked row is a row of its head. -/
theorem stacked_head (o : ℕ) (ho : o ≤ 128) (a : Fin 256) (r : Fin 128) (h : Fin 4) (hr : r.val = a.val % 128)
    (hh : h.val * 64 = o + 64 * (a.val / 128)) (d : Fin 64) :
    stacked q o ho a d = q (ix2 r ⟨h.val * 64 + d.val, by omega⟩) := by
  unfold stacked
  rw [show (⟨a.val % 128, by omega⟩ : Fin 128) = r from Fin.ext hr.symm,
    show (⟨o + 64 * (a.val / 128) + d.val, by omega⟩ : Fin 256) = ⟨h.val * 64 + d.val, by omega⟩ from Fin.ext (by dsimp only; omega)]

theorem pairA_at (a : Fin 256) (e : Fin 64) (r : Fin 128) (h : Fin 4) (hr : r.val = a.val % 128) (hh : h.val = a.val / 128) :
    k0_pay8 (F := Ideal) cv k0_pay3 (k0_pay5 v) (k0_pay6 i q k) (k0_pay7 q ck) (s 0) (s 1) (ix2 a e) = att i s q k v ck cv r h e := by
  have hl : ∀ d : Fin 64, (⟨d.val, by omega⟩ : Fin 128) = ⟨h.val / 2 * 64 + d.val, by omega⟩ := fun d => Fin.ext (by dsimp only; omega)
  refine (pair0_at _ _ _ _ _ _ _ _ _).trans (late_congr (fun j => ?_) (fun j => ?_) (fun x => ?_) (fun x => ?_) ?_)
  · refine (loc0_at i q k a j).trans ?_
    rw [mask_at, select_if, hr]
    simp only [stacked_head q 0 (by omega) a r h hr (by omega), hl]
  · rw [← hl]
    pointwise [k0_pay5]
  · refine (ctx0_at q ck a x).trans ?_
    simp only [stacked_head q 0 (by omega) a r h hr (by omega), hl]
  · rw [hl]
  · rw [first_at, select_if]
    by_cases h1 : a.val < 128
    · rw [if_pos h1, show h = 0 from Fin.ext (by simp; omega)]
    · rw [if_neg h1, show h = 1 from Fin.ext (by simp; omega)]

theorem pairB_at (a : Fin 256) (e : Fin 64) (r : Fin 128) (h : Fin 4) (hr : r.val = a.val % 128) (hh : h.val = 2 + a.val / 128) :
    pairOut cv k0_pay3 (k0_pay12 v) (k0_pay13 q k (k0_pay2 i)) (k0_pay14 q ck) (s 3) (k0_pay15 (s 2)) (ix2 a e) = att i s q k v ck cv r h e := by
  have hl : ∀ d : Fin 64, (⟨64 + d.val, by omega⟩ : Fin 128) = ⟨h.val / 2 * 64 + d.val, by omega⟩ := fun d => Fin.ext (by dsimp only; omega)
  refine (pair1_at _ _ _ _ _ _ _ _ _).trans (late_congr (fun j => ?_) (fun j => ?_) (fun x => ?_) (fun x => ?_) ?_)
  · refine (loc1_at q k _ a j).trans ?_
    rw [mask_at, select_if, hr]
    simp only [stacked_head q 128 (by omega) a r h hr (by omega), hl]
  · rw [← hl]
    pointwise [k0_pay12]
  · refine (ctx1_at q ck a x).trans ?_
    simp only [stacked_head q 128 (by omega) a r h hr (by omega), hl]
  · rw [hl]
  · rw [first_at, select_if]
    by_cases h1 : a.val < 128
    · rw [if_pos h1, show h = 2 from Fin.ext (by simp; omega)]
      pointwise [k0_pay15]
    · rw [if_neg h1, show h = 3 from Fin.ext (by simp; omega)]

theorem first_rows (V : FVec Ideal S256x128 .bf16) (f : IVec S256x1 1) (w : FVec Ideal S384x64 .bf16) (L : FVec Ideal S256x384 .f32)
    (C : FVec Ideal S256x256 .f32) (s0 s1 : EReal) (r : Fin 128) (e : Fin 64) :
    k0_pay9 (F := Ideal) V f w L C s0 s1 (ix2 r e) = k0_pay8 (F := Ideal) V f w L C s0 s1 (ix2 ⟨r.val, by omega⟩ e) := by
  generalize hp : k0_pay8 (F := Ideal) V f w L C s0 s1 = P
  unfold k0_pay9
  rw [hp]
  pointwise

theorem last_rows (V : FVec Ideal S256x128 .bf16) (f : IVec S256x1 1) (w : FVec Ideal S384x64 .bf16) (L : FVec Ideal S256x384 .f32)
    (C : FVec Ideal S256x256 .f32) (s0 s1 : EReal) (r : Fin 128) (e : Fin 64) :
    k0_pay10 (F := Ideal) V f w L C s0 s1 (ix2 r e) = k0_pay8 (F := Ideal) V f w L C s0 s1 (ix2 ⟨128 + r.val, by omega⟩ e) := by
  generalize hp : k0_pay8 (F := Ideal) V f w L C s0 s1 = P
  unfold k0_pay10
  rw [hp]
  pointwise

/-- The block at row `r`, column `x`. -/
theorem block_at (r : Fin 128) (x : Fin 256) (h : Fin 4) (e : Fin 64) (hh : h.val = x.val / 64) (he : e.val = x.val % 64) :
    block i s q k v ck cv (ix2 r x) = att i s q k v ck cv r h e := by
  unfold block
  refine (out_at _ _ _ _ _ _ _ _ _ _ _).trans ?_
  by_cases h0 : x.val < 64
  · rw [dif_pos h0, show (⟨x.val, h0⟩ : Fin 64) = e from Fin.ext (by dsimp only; omega)]
    exact (first_rows _ _ _ _ _ _ _ _ _).trans (pairA_at i s q k v ck cv _ e r h (by dsimp only; omega) (by dsimp only; omega))
  rw [dif_neg h0]
  by_cases h1 : x.val - 64 < 64
  · rw [dif_pos h1, show (⟨x.val - 64, h1⟩ : Fin 64) = e from Fin.ext (by dsimp only; omega)]
    exact (last_rows _ _ _ _ _ _ _ _ _).trans (pairA_at i s q k v ck cv _ e r h (by dsimp only; omega) (by dsimp only; omega))
  rw [dif_neg h1]
  by_cases h2 : x.val - 64 - 64 < 64
  · rw [dif_pos h2, show (⟨x.val - 64 - 64, h2⟩ : Fin 64) = e from Fin.ext (by dsimp only; omega)]
    exact pairB_at i s q k v ck cv _ e r h (by dsimp only; omega) (by dsimp only; omega)
  · rw [dif_neg h2, show (⟨x.val - 64 - 64 - 64, by omega⟩ : Fin 64) = e from Fin.ext (by dsimp only; omega)]
    exact pairB_at i s q k v ck cv _ e r h (by dsimp only; omega) (by dsimp only; omega)

end

/-! What a grid point loads. -/

/-- A load at an entry: the array at the entry moved by the load's offsets. -/
theorem ld_at {n0 n1 k0 k1 : ℕ} (X : Vec Ideal ⟨2, ![n0, n1]⟩ .bf16) (o : Fin 2 → ℕ)
    (h : ∀ a, o a + (⟨2, ![k0, k1]⟩ : Shape).size a ≤ (⟨2, ![n0, n1]⟩ : Shape).size a) (a : Fin k0) (b : Fin k1) :
    View.ld (Val := Elt Ideal) (e' := .bf16) X (Rect.unit (s := ⟨2, ![n0, n1]⟩) o (⟨2, ![k0, k1]⟩ : Shape).size h) (ix2 a b) =
      X (ix2 ⟨o 0 + a.val, lt_of_lt_of_le (Nat.add_lt_add_left a.isLt _) (h 0)⟩ ⟨o 1 + b.val, lt_of_lt_of_le (Nat.add_lt_add_left b.isLt _) (h 1)⟩) :=
  View.ld_unit_apply_of _ _ _ _ _ _ fun x => by fin_cases x <;> rfl

section
variable (c : Dev nD) (t : Fin cfg0.N)

/-- The four sinks, and the parts of a point's arrays that its body loads. -/
def sink (h : Fin 4) : EReal := (show FVec Ideal S4 .f32 from m ((c : Thread nD τ).loc main_arg0)) (ix1 h)

def qLd : FVec Ideal S128x256 .bf16 :=
  View.ld (iblk m c 1 t) (Rect.unit (s := S128x384) ![0, 0] S128x256.size inb_S128x384_S128x256_0_0)
def kLd : FVec Ideal S384x128 .bf16 :=
  View.ld (iblk m c 2 t) (Rect.unit (s := S2048x384) (k0_off1 (grid0.coords t)) S384x128.size (k0_off1_inb (grid0.coords t)))
def vLd : FVec Ideal S384x128 .bf16 :=
  View.ld (iblk m c 3 t) (Rect.unit (s := S2048x128) (k0_off2 (grid0.coords t)) S384x128.size (k0_off2_inb (grid0.coords t)))
def ckLd : FVec Ideal S256x128 .bf16 :=
  View.ld (iblk m c 4 t) (Rect.unit (s := S256x384) ![0, 256] S256x128.size inb_S256x384_S256x128_0_256)

/-- A sink as it is read one at a time. -/
theorem sink_at (h : Fin 4) (o : Fin 1 → ℕ) (ho : o = ![h.val]) (hi : ∀ a, o a + S1.size a ≤ S4.size a) (hn : 0 < S1.numel) :
    View.ld (iblk m c 0 t) (Rect.unit (s := S4) o S1.size hi) (Shape.Idx.first hn) = sink m c h := by
  subst ho
  refine (View.ld_unit_apply_of _ _ _ _ _ (ix1 h) fun x => by fin_cases x; rfl).trans ?_
  unfold sink
  blk_ext [iblk, V, idx t]

theorem lt_points : t.val < 128 := lt_of_lt_of_eq t.isLt N_0

def bat : Fin 8 := ⟨t.val / 16, by have := lt_points t; omega⟩
def blo : Fin 16 := ⟨t.val % 16, by omega⟩

theorem rd_q (r : Fin 128) (x : Fin 256) : qLd m c t (ix2 r x) = (show FVec Ideal S18432x384 .bf16 from m ((c : Thread nD τ).loc main_arg1))
    (ix2 ⟨t.val * 128 + r.val, by have := lt_points t; omega⟩ ⟨x.val, by omega⟩) := by
  refine (ld_at _ ![0, 0] _ _ _).trans ?_
  blk_ext [iblk, V, idx t]

theorem rd_k (j : Fin 384) (x : Fin 128) : kLd m c t (ix2 j x) = (show FVec Ideal S18432x384 .bf16 from m ((c : Thread nD τ).loc main_arg1))
    (ix2 ⟨t.val / 16 * 2048 + (start (t.val % 16) + j.val), by have := lt_points t; unfold start; omega⟩ ⟨256 + x.val, by omega⟩) := by
  refine (ld_at _ _ _ _ _).trans ?_
  blk_ext [iblk, V, idx t]

theorem rd_v (j : Fin 384) (x : Fin 128) : vLd m c t (ix2 j x) = (show FVec Ideal S18432x128 .bf16 from m ((c : Thread nD τ).loc main_arg2))
    (ix2 ⟨t.val / 16 * 2048 + (start (t.val % 16) + j.val), by have := lt_points t; unfold start; omega⟩ x) := by
  refine (ld_at _ _ _ _ _).trans ?_
  blk_ext [iblk, V, idx t]

theorem rd_ck (j : Fin 256) (x : Fin 128) : ckLd m c t (ix2 j x) = (show FVec Ideal S18432x384 .bf16 from m ((c : Thread nD τ).loc main_arg1))
    (ix2 ⟨16384 + (t.val / 16 * 256 + j.val), by have := lt_points t; omega⟩ ⟨256 + x.val, by omega⟩) := by
  refine (ld_at _ ![0, 256] _ _ _).trans ?_
  blk_ext [iblk, V, idx t]

theorem rd_cv (j : Fin 256) (x : Fin 128) : (show FVec Ideal S256x128 .bf16 from iblk m c 5 t) (ix2 j x) = (show FVec Ideal S18432x128 .bf16 from m ((c : Thread nD τ).loc main_arg2))
    (ix2 ⟨16384 + (t.val / 16 * 256 + j.val), by have := lt_points t; omega⟩ x) := by
  blk_ext [iblk, V, idx t]

/-- The block is the body's at what it loads. -/
theorem out_block : outsAt0 m c t = block (grid0.coords t) (sink m c) (qLd m c t) (kLd m c t) (vLd m c t) (ckLd m c t) (iblk m c 5 t) := by
  unfold outsAt0
  frame_out
  unfold block
  rw [← sink_at m c t 0 ![0] rfl inb_S4_S1_0 (by decide), ← sink_at m c t 1 ![1] rfl inb_S4_S1_1 (by decide),
    ← sink_at m c t 2 ![2] rfl inb_S4_S1_2 (by decide), ← sink_at m c t 3 ![3] rfl inb_S4_S1_3 (by decide)]
  rfl

/-- The kernel's row, head and lane as windowed attention. -/
theorem att_attn (r : Fin 128) (h : Fin 4) (e : Fin 64) :
    att (grid0.coords t) (sink m c) (qLd m c t) (kLd m c t) (vLd m c t) (ckLd m c t) (iblk m c 5 t) r h e =
      attn (128 * (blo t).val + r.val) (qrow (m ((c : Thread nD τ).loc main_arg1)) (bat t) (blo t) r h) (krow (m ((c : Thread nD τ).loc main_arg1)) (bat t) h)
        (vrow (m ((c : Thread nD τ).loc main_arg2)) (bat t) h e) (cscore (m ((c : Thread nD τ).loc main_arg1)) (bat t) (blo t) r h)
        (cval (m ((c : Thread nD τ).loc main_arg2)) (bat t) h e) (sink m c h) := by
  have ht := lt_points t
  have hn : (grid0.coords t 1).val = t.val % 16 := (idx t).2.2.2.2.2.2.2.1
  have hq : ∀ d : Fin 64, qLd m c t (ix2 r ⟨h.val * 64 + d.val, by omega⟩) = qrow (m ((c : Thread nD τ).loc main_arg1)) (bat t) (blo t) r h d := fun d => by
    rw [rd_q]
    unfold qrow
    exact congrArg _ (congrArg₂ ix2 (Fin.ext (by dsimp only [bat, blo]; omega)) (Fin.ext rfl))
  unfold att
  refine (late_congr (fun _ => rfl) (fun _ => rfl) (fun x => ?_) (fun x => ?_) rfl).trans
    (attn_window (128 * (blo t).val + r.val) (start (t.val % 16) + 128) (fun P hP => ?_) (by unfold start; omega) _ _ _ _ _ _ _ _
      (fun j => ?_) (fun j _ => ?_))
  · unfold cscore
    refine Finset.sum_congr rfl fun d _ => congrArg₂ (fun x y : EReal => x * y) (hq d) ?_
    exact rd_ck m c t x _
  · exact rd_cv m c t x _
  · unfold Sees at hP
    unfold start
    dsimp only [blo] at hP
    omega
  · rw [hn]
    refine congrArg (fun x : EReal => if Sees (128 * (t.val % 16) + r.val) (start (t.val % 16) + 128 + j.val) then x else ⊥) ?_
    refine Finset.sum_congr rfl fun d _ => congrArg₂ (fun x y : EReal => x * y) (hq d) ?_
    unfold krow
    rw [dif_pos (by unfold start; dsimp only; omega)]
    refine (rd_k m c t j _).trans (congrArg _ (congrArg₂ ix2 (Fin.ext ?_) (Fin.ext rfl)))
    dsimp only [bat]
    omega
  · unfold vrow
    rw [dif_pos (by unfold start; dsimp only; omega)]
    refine (rd_v m c t j _).trans (congrArg _ (congrArg₂ ix2 (Fin.ext ?_) (Fin.ext rfl)))
    dsimp only [bat]
    omega

end

/-- The reference's entry as windowed attention, where the sink, the queries and the keys are numbers. -/
theorem REF_attn (A : FVec Ideal S4 .f32) (X : FVec Ideal S18432x384 .bf16) (Y : FVec Ideal S18432x128 .bf16)
    (hA : ∀ i, (A i : EReal) ≠ ⊤ ∧ (A i : EReal) ≠ ⊥) (hX : ∀ i, (X i : EReal) ≠ ⊤ ∧ (X i : EReal) ≠ ⊥)
    (g : Fin 16384) (d : Fin 256) (b : Fin 8) (n : Fin 16) (r : Fin 128) (h : Fin 4) (e : Fin 64)
    (hb : b.val = g.val / 2048) (hn : n.val = g.val / 128 % 16) (hr : r.val = g.val % 128) (hh : h.val = d.val / 64)
    (he : e.val = d.val % 64) :
    REF A X Y (ix2 g d) = attn (128 * n.val + r.val) (qrow X b n r h) (krow X b h) (vrow Y b h e) (cscore X b n r h) (cval Y b h e) (A (ix1 h)) := by
  have hQ : ∀ d, qrow X b n r h d ≠ ⊤ ∧ qrow X b n r h d ≠ ⊥ := fun d => hX _
  have hK : ∀ p d, krow X b h p d ≠ ⊤ ∧ krow X b h p d ≠ ⊥ := fun p d => by
    unfold krow
    by_cases hp : 128 ≤ p.val ∧ p.val - 128 < 2048
    · rw [dif_pos hp]; exact hX _
    · rw [dif_neg hp]; exact ⟨EReal.zero_ne_top, EReal.zero_ne_bot⟩
  have hC : ∀ k, cscore X b n r h k ≠ ⊤ ∧ cscore X b n r h k ≠ ⊥ := fun k => dot_number hQ fun d => hX _
  have hL : ∀ j, lscore X b n r h j ≠ ⊤ := fun j => by
    unfold lscore
    by_cases hs : Sees (128 * n.val + r.val) (128 * n.val + j.val)
    · rw [if_pos hs]; exact (dot_number hQ fun d => hK _ d).1
    · rw [if_neg hs]; exact bot_ne_top
  refine (REF_early A X Y g d b n r h e hb hn hr hh he).trans ((early_eq_late hL (fun k => (hC k).1) (hA _).1 0 (hC 0).2).trans
    (attn_window (128 * n.val + r.val) (128 * n.val) (fun P hP => ?_) (by omega) _ _ _ _ _ _ _ _ (fun j => rfl) (fun j _ => rfl)))
  unfold Sees at hP
  omega

theorem wr6 (t : Fin cfg0.N) (a : Fin 128) (b : Fin 256) (G : FVec Ideal S16384x256 .bf16) :
    G (((View.whole main_v0).slice (win0_6.rect t)).emb (ix2 a b)) = G (ix2 ⟨t.val * 128 + a.val, by have := lt_points t; omega⟩ b) := by
  blk_ext [idx t]

/-- The result array is the reference's term. -/
theorem final (c : Dev nD)
    (hA : ∀ i, ((show FVec Ideal S4 .f32 from m ((c : Thread nD τ).loc main_arg0)) i : EReal) ≠ ⊤ ∧ ((show FVec Ideal S4 .f32 from m ((c : Thread nD τ).loc main_arg0)) i : EReal) ≠ ⊥)
    (hX : ∀ i, ((show FVec Ideal S18432x384 .bf16 from m ((c : Thread nD τ).loc main_arg1)) i : EReal) ≠ ⊤ ∧ ((show FVec Ideal S18432x384 .bf16 from m ((c : Thread nD τ).loc main_arg1)) i : EReal) ≠ ⊥) :
    (dats m 0 c).arrAt 6 cfg0.N
      = REF (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, out_block]
  idx_vars y
  have ht := lt_points t
  refine Eq.trans ?_ (wr6 t y0 y1 _).symm
  refine (block_at _ _ _ _ _ _ _ y0 y1 ⟨y1.val / 64, by omega⟩ ⟨y1.val % 64, by omega⟩ rfl rfl).trans ?_
  refine (att_attn m c t _ _ _).trans ?_
  exact (REF_attn _ _ _ hA hX _ y1 (bat t) (blo t) y0 ⟨y1.val / 64, by omega⟩ ⟨y1.val % 64, by omega⟩
    (by dsimp only [bat]; omega) (by dsimp only [blo]; omega) (by dsimp only; omega) rfl rfl).symm

end Cert.WattnIdeal.KVal

end
-- ==== Proof.MoeBlock.lean ====
/-
  The expert layer, one block: what one grid point adds to the running sum of its 512 rows. A grid point is one
  expert; `expertAt` is the contribution of one expert to one row and one column, written as plain sums.
-/
module

public import proofs.«01_k».proof.Proof.Gen.MoeIdeal.Value
public import proofs.«01_k».proof.Proof.Gen.MoeRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-- One expert's contribution to one row and one output column: the gated hidden row, scaled by the row's weight for
    the expert, against one column of the expert's down projection. `T` is the token row, `G` and `U` the expert's gate
    and up matrices, `w` the combination weight, `D` the down column. -/
def Cert.expertAt (T : Fin 1024 → EReal) (G U : Fin 1024 → Fin 256 → EReal) (w : EReal) (D : Fin 256 → EReal) : EReal :=
  ∑ f : Fin 256, (((∑ k : Fin 1024, T k * G k f) * Ideal.logistic (∑ k : Fin 1024, T k * G k f))
    * (∑ k : Fin 1024, T k * U k f) * w) * D f

namespace Cert.MoeIdeal.KVal

open Cert.MoeIdeal Cert.MoeIdeal.Gen

/-- The fill of the running sum is zero. -/
theorem zero_at (j) : k0_pay1 (k0_pay3 (F := Ideal)) j = 0 := by
  pointwise [k0_pay1, k0_pay3]

/-- The row sum of a lane vector kept at one lane only is that lane. -/
theorem oneHot (v : Fin 128 → EReal) (e : Fin 128) :
    (∑ l : Fin 128, Scalar.select (IntOp.cmpi CmpIPredicate.eq (BitVec.ofNat 32 l.val) (BitVec.ofNat 32 e.val)) (v l) 0)
      = v e := by
  rw [Finset.sum_eq_single e]
  · simp [Scalar.select, IntOp.cmpi]
  · intro l _ hl
    have h : ¬ BitVec.ofNat 32 l.val = BitVec.ofNat 32 e.val := by
      intro h
      apply hl
      have h2 := congrArg BitVec.toNat h
      simp only [BitVec.toNat_ofNat] at h2
      have := l.isLt; have := e.isLt
      exact Fin.ext (by omega)
    have h' : (BitVec.ofNat 32 l.val == BitVec.ofNat 32 e.val) = false := beq_eq_false_iff_ne.mpr h
    simp only [Scalar.select, IntOp.cmpi, h']
    simp
  · simp

/-- One grid point adds its expert's contribution to the running sum. -/
theorem step_at (i : grid0.Coords) (tok : FVec Ideal S512x1024 .bf16) (comb : FVec Ideal S512x128 .f32)
    (wg wu : FVec Ideal S1x1024x256 .f32) (acc : FVec Ideal S512x1024 .f32) (wd : FVec Ideal S1x256x1024 .f32)
    (a : Fin 512) (b : Fin 1024) :
    k0_pay1 (k0_pay4 i tok comb wg wu acc wd) (ix2 a b) = acc (ix2 a b) +
      expertAt (fun k => tok (ix2 a k)) (fun k f => wg (ix3 0 k f)) (fun k f => wu (ix3 0 k f))
        (comb (ix2 a ⟨(i 1).val, lt_of_lt_of_le (i 1).isLt (by decide)⟩))
        (fun f => wd (ix3 0 f b)) := by
  pointwise [k0_pay1, k0_pay4, expertAt]
  rw [oneHot (fun l => comb (ix2 a l)) ⟨(i 1).val, lt_of_lt_of_le (i 1).isLt (by decide)⟩]

/-- The last point of a row block adds the modulated sum to the residual. -/
theorem last_at (x : FVec Ideal S512x1024 .f32) (md : FVec Ideal S1x6x1024 .f32) (acc : FVec Ideal S512x1024 .f32)
    (a : Fin 512) (b : Fin 1024) :
    k0_pay2 x md acc (ix2 a b) = x (ix2 a b) + md (ix3 0 5 b) * acc (ix2 a b) := by
  pointwise [k0_pay2]

end Cert.MoeIdeal.KVal

namespace Cert.MoeRefIdeal.Part

open Cert.MoeRefIdeal Cert.MoeRefIdeal.Gen

/-- One group of eight experts, as the reference composes it. -/
def group (T : FVec Ideal S18432x1024 .bf16) (G U : FVec Ideal S8x1024x256 .f32) (C : FVec Ideal S18432x8 .f32) (D : FVec Ideal S8x256x1024 .f32) :
    FVec Ideal S18432x1024 .f32 :=
  (Host.dotGeneral dot_S18432x8x256_S8x256x1024_S18432x1024_12_01_0_2_n_n none (mulf (mulf (mulf (Host.dotGeneral dot_S18432x1024_S8x1024x256_S18432x8x256_1_1_0_02_n_n none (extf .f32 T bitsLt_bf16_f32) G) (Host.divf (broadcastInDim S18432x8x256 ![] bcast_S_S18432x8x256 (constant S_ .f32 0x3F800000#32)) (addf (broadcastInDim S18432x8x256 ![] bcast_S_S18432x8x256 (constant S_ .f32 0x3F800000#32)) (Host.exp (Host.negf (Host.dotGeneral dot_S18432x1024_S8x1024x256_S18432x8x256_1_1_0_02_n_n none (extf .f32 T bitsLt_bf16_f32) G)))))) (Host.dotGeneral dot_S18432x1024_S8x1024x256_S18432x8x256_1_1_0_02_n_n none (extf .f32 T bitsLt_bf16_f32) U)) (broadcastInDim S18432x8x256 ![0, 1, 2] bcast_S18432x8x1_S18432x8x256_0_1_2 (broadcastInDim S18432x8x1 ![0, 1] bcast_S18432x8_S18432x8x1_0_1 C))) D)

/-- A group is the sum of its eight experts' contributions. -/
theorem group_at (T : FVec Ideal S18432x1024 .bf16) (G U : FVec Ideal S8x1024x256 .f32) (C : FVec Ideal S18432x8 .f32) (D : FVec Ideal S8x256x1024 .f32)
    (n : Fin 18432) (d : Fin 1024) :
    group T G U C D (ix2 n d) = ∑ e : Fin 8, expertAt (fun k => T (ix2 n k)) (fun k f => G (ix3 e k f)) (fun k f => U (ix3 e k f))
        (C (ix2 n e)) (fun f => D (ix3 e f d)) := by
  pointwise [group, expertAt]
  rfl

end Cert.MoeRefIdeal.Part

end
-- ==== Proof.MoeRef.lean ====
/-
  The expert layer, the reference: its composed term `REF`, cut into the sum over the experts (`experts`) and the
  modulated residual around it, and what each of the two is at an index.
-/
module

public import proofs.«01_k».proof.Proof.MoeBlock

@[expose] public section

set_option maxRecDepth 16384

noncomputable section

open Idealize.ShloMosaic Idealize.ShloMosaic.TcCoe Idealize.SL.Sem
open Idealize.ShloMosaic.Pipeline (Dat)

namespace Cert.MoeRefIdeal.Part

open Cert.MoeRefIdeal Cert.MoeRefIdeal.Gen

/-- The sum of the four groups, as the reference composes it. -/
def experts (T : FVec Ideal S18432x1024 .bf16) (C : FVec Ideal S18432x128 .f32) (WG WU : FVec Ideal S4x8x1024x256 .f32) (WD : FVec Ideal S4x8x256x1024 .f32) :
    FVec Ideal S18432x1024 .f32 :=
  addf (addf (addf (addf (broadcastInDim S18432x1024 ![] bcast_S_S18432x1024 (constant S_ .f32 0x00000000#32)) (group T (shapeCast S8x1024x256 (extractStridedSlice S1x8x1024x256 ![0, 0, 0, 0] WG slices_S4x8x1024x256_S1x8x1024x256_0_0_0_0) shapeCasts_S1x8x1024x256_S8x1024x256) (shapeCast S8x1024x256 (extractStridedSlice S1x8x1024x256 ![0, 0, 0, 0] WU slices_S4x8x1024x256_S1x8x1024x256_0_0_0_0) shapeCasts_S1x8x1024x256_S8x1024x256) (extractStridedSlice S18432x8 ![0, 0] C slices_S18432x128_S18432x8_0_0) (shapeCast S8x256x1024 (extractStridedSlice S1x8x256x1024 ![0, 0, 0, 0] WD slices_S4x8x256x1024_S1x8x256x1024_0_0_0_0) shapeCasts_S1x8x256x1024_S8x256x1024))) (group T (shapeCast S8x1024x256 (extractStridedSlice S1x8x1024x256 ![1, 0, 0, 0] WG slices_S4x8x1024x256_S1x8x1024x256_1_0_0_0) shapeCasts_S1x8x1024x256_S8x1024x256) (shapeCast S8x1024x256 (extractStridedSlice S1x8x1024x256 ![1, 0, 0, 0] WU slices_S4x8x1024x256_S1x8x1024x256_1_0_0_0) shapeCasts_S1x8x1024x256_S8x1024x256) (extractStridedSlice S18432x8 ![0, 8] C slices_S18432x128_S18432x8_0_8) (shapeCast S8x256x1024 (extractStridedSlice S1x8x256x1024 ![1, 0, 0, 0] WD slices_S4x8x256x1024_S1x8x256x1024_1_0_0_0) shapeCasts_S1x8x256x1024_S8x256x1024))) (group T (shapeCast S8x1024x256 (extractStridedSlice S1x8x1024x256 ![2, 0, 0, 0] WG slices_S4x8x1024x256_S1x8x1024x256_2_0_0_0) shapeCasts_S1x8x1024x256_S8x1024x256) (shapeCast S8x1024x256 (extractStridedSlice S1x8x1024x256 ![2, 0, 0, 0] WU slices_S4x8x1024x256_S1x8x1024x256_2_0_0_0) shapeCasts_S1x8x1024x256_S8x1024x256) (extractStridedSlice S18432x8 ![0, 16] C slices_S18432x128_S18432x8_0_16) (shapeCast S8x256x1024 (extractStridedSlice S1x8x256x1024 ![2, 0, 0, 0] WD slices_S4x8x256x1024_S1x8x256x1024_2_0_0_0) shapeCasts_S1x8x256x1024_S8x256x1024))) (group T (shapeCast S8x1024x256 (extractStridedSlice S1x8x1024x256 ![3, 0, 0, 0] WG slices_S4x8x1024x256_S1x8x1024x256_3_0_0_0) shapeCasts_S1x8x1024x256_S8x1024x256) (shapeCast S8x1024x256 (extractStridedSlice S1x8x1024x256 ![3, 0, 0, 0] WU slices_S4x8x1024x256_S1x8x1024x256_3_0_0_0) shapeCasts_S1x8x1024x256_S8x1024x256) (extractStridedSlice S18432x8 ![0, 24] C slices_S18432x128_S18432x8_0_24) (shapeCast S8x256x1024 (extractStridedSlice S1x8x256x1024 ![3, 0, 0, 0] WD slices_S4x8x256x1024_S1x8x256x1024_3_0_0_0) shapeCasts_S1x8x256x1024_S8x256x1024))

/-- The reference's result as a function of its seven arguments. -/
def REF (X : FVec Ideal S18432x1024 .f32) (T : FVec Ideal S18432x1024 .bf16) (C : FVec Ideal S18432x128 .f32)
    (M : FVec Ideal S16x6x1024 .f32) (WG WU : FVec Ideal S4x8x1024x256 .f32) (WD : FVec Ideal S4x8x256x1024 .f32) :
    FVec Ideal S18432x1024 .f32 :=
  concatenate S18432x1024 0 [⟨S16384x1024, (shapeCast S16384x1024 (addf (shapeCast S8x2048x1024 (extractStridedSlice S16384x1024 ![0, 0] X slices_S18432x1024_S16384x1024_0_0) shapeCasts_S16384x1024_S8x2048x1024) (mulf (broadcastInDim S8x2048x1024 ![0, 1, 2] bcast_S8x1x1024_S8x2048x1024_0_1_2 (broadcastInDim S8x1x1024 ![0, 2] bcast_S8x1024_S8x1x1024_0_2 (shapeCast S8x1024 (extractStridedSlice S8x1x1024 ![0, 5, 0] M slices_S16x6x1024_S8x1x1024_0_5_0) shapeCasts_S8x1x1024_S8x1024))) (shapeCast S8x2048x1024 (extractStridedSlice S16384x1024 ![0, 0] (experts T C WG WU WD) slices_S18432x1024_S16384x1024_0_0) shapeCasts_S16384x1024_S8x2048x1024))) shapeCasts_S8x2048x1024_S16384x1024)⟩, ⟨S2048x1024, (addf (extractStridedSlice S2048x1024 ![16384, 0] X slices_S18432x1024_S2048x1024_16384_0) (mulf (broadcastInDim S2048x1024 ![0, 1] bcast_S1x1024_S2048x1024_0_1 (broadcastInDim S1x1024 ![1] bcast_S1024_S1x1024_1 (shapeCast S1024 (extractStridedSlice S1x1x1024 ![8, 5, 0] M slices_S16x6x1024_S1x1x1024_8_5_0) shapeCasts_S1x1x1024_S1024))) (extractStridedSlice S2048x1024 ![16384, 0] (experts T C WG WU WD) slices_S18432x1024_S2048x1024_16384_0)))⟩] concatenates_S16384x1024_S2048x1024_S18432x1024_d0

/-- The generated name of the reference's result unfolds to `REF` of the arguments. -/
theorem res_eq (m : (ℓ : Loc nD τ sig) → Buf (Elt Ideal) ℓ) (c : Dev nD) :
    Cert.MoeRefIdeal.Value.res_main_v85 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold Cert.MoeRefIdeal.Value.res_main_v85 REF experts group
  rfl

/-- The contribution of expert `e` of the thirty-two to row `n`, column `d`. -/
def term (T : FVec Ideal S18432x1024 .bf16) (C : FVec Ideal S18432x128 .f32) (WG WU : FVec Ideal S4x8x1024x256 .f32) (WD : FVec Ideal S4x8x256x1024 .f32)
    (n : Fin 18432) (d : Fin 1024) (g : Fin 4) (e : Fin 8) : EReal :=
  expertAt (fun k => T (ix2 n k)) (fun k f => WG (ix4 g e k f)) (fun k f => WU (ix4 g e k f))
    (C (ix2 n ⟨8 * g.val + e.val, by omega⟩)) (fun f => WD (ix4 g e f d))

/-- The sum over the experts, group by group. -/
theorem experts_at (T : FVec Ideal S18432x1024 .bf16) (C : FVec Ideal S18432x128 .f32) (WG WU : FVec Ideal S4x8x1024x256 .f32) (WD : FVec Ideal S4x8x256x1024 .f32)
    (n : Fin 18432) (d : Fin 1024) :
    experts T C WG WU WD (ix2 n d) = ∑ g : Fin 4, ∑ e : Fin 8, term T C WG WU WD n d g e := by
  pointwise [experts]
  simp only [group_at]
  rw [Fin.sum_univ_four]
  pointwise [term]

/-- The reference at a row of the latent part (`n < 16384`) or of the context. -/
theorem REF_at (X : FVec Ideal S18432x1024 .f32) (T : FVec Ideal S18432x1024 .bf16) (C : FVec Ideal S18432x128 .f32)
    (M : FVec Ideal S16x6x1024 .f32) (WG WU : FVec Ideal S4x8x1024x256 .f32) (WD : FVec Ideal S4x8x256x1024 .f32)
    (n : Fin 18432) (d : Fin 1024) (r : Fin 16) (hr : r.val = if n.val < 16384 then n.val / 2048 else 8) :
    REF X T C M WG WU WD (ix2 n d) = X (ix2 n d) + M (ix3 r 5 d) * experts T C WG WU WD (ix2 n d) := by
  pointwise [REF]
  have e1 : ∀ h, (⟨n.val / 2048 * 2048 + n.val % 2048, h⟩ : Fin 18432) = n := fun h => Fin.ext (by dsimp only; omega)
  by_cases h : n.val < 16384
  · rw [if_pos h] at hr
    rw [dif_pos h]
    have e2 : ∀ h, (⟨n.val / 2048, h⟩ : Fin 16) = r := fun h => Fin.ext hr.symm
    simp only [e1, e2]
  · rw [if_neg h] at hr
    rw [dif_neg h]
    have e3 : ∀ h, (⟨16384 + (n.val - 16384), h⟩ : Fin 18432) = n := fun h => Fin.ext (by dsimp only; omega)
    have e2 : r = 8 := Fin.ext hr
    simp only [e3, e2]

end Cert.MoeRefIdeal.Part

end
-- ==== Proof.MoeValue.lean ====
/-
  The expert layer, the kernel's result array: the running sum of a row block over its thirty-two grid points, the
  block written back at the last of them, and the equation with the reference.
-/
module

public import proofs.«01_k».proof.Proof.MoeRef

@[expose] public section

set_option maxRecDepth 16384

noncomputable section

open Idealize.ShloMosaic Idealize.ShloMosaic.TcCoe Idealize.SL.Sem
open Idealize.ShloMosaic.Pipeline (Dat)

namespace Cert.MoeIdeal.KVal

open Cert.MoeIdeal Cert.MoeIdeal.Gen
open Cert.MoeRefIdeal.Part (REF REF_at experts_at term)

variable (m : (ℓ : Loc nD τ sig) → Buf (Elt Ideal) ℓ)

/-- Where point `t` reads and writes: row block `t / 32`, expert `t % 32`, modulation row `t / 128` (row 8 for the context). -/
theorem idx : ∀ t : Fin cfg0.N,
    win0_0.index t = ![t.val / 32, 0] ∧ win0_1.index t = ![t.val / 32, 0] ∧ win0_2.index t = ![t.val / 32, 0]
      ∧ win0_3.index t = ![if t.val / 32 < 32 then t.val / 128 else 8, 0, 0]
      ∧ win0_4.index t = ![t.val % 32, 0, 0] ∧ win0_5.index t = ![t.val % 32, 0, 0] ∧ win0_6.index t = ![t.val % 32, 0, 0]
      ∧ win0_7.index t = ![t.val / 32, 0] ∧ (grid0.coords t 1).val = t.val % 32 :=
  (by decide +kernel : ∀ t : Fin grid0.N, _)

/-- The contribution of point `t`'s expert to row `j 0`, column `j 1` of its block. -/
def contrib (c : Dev nD) (t : Fin cfg0.N) (j : S512x1024.Idx) : EReal :=
  expertAt (fun k => (show FVec Ideal S512x1024 .bf16 from iblk m c 1 t) (ix2 (j 0) k))
    (fun k f => (show FVec Ideal S1x1024x256 .f32 from iblk m c 4 t) (ix3 0 k f))
    (fun k f => (show FVec Ideal S1x1024x256 .f32 from iblk m c 5 t) (ix3 0 k f))
    ((show FVec Ideal S512x128 .f32 from iblk m c 2 t) (ix2 (j 0) ⟨(grid0.coords t 1).val, lt_of_lt_of_le (grid0.coords t 1).isLt (by decide)⟩))
    (fun f => (show FVec Ideal S1x256x1024 .f32 from iblk m c 6 t) (ix3 0 f (j 1)))

/-- The scratch is read whole. -/
theorem scW : scM0_0.IsWhole := Memref.isWhole_whole _

/-- What the first point of a row block leaves in the running sum. -/
theorem sum_first (c : Dev nD) (t : Fin cfg0.N) (h : t.val % 32 = 0) (j : S512x1024.Idx) :
    (outsAt0 m c t.val t.isLt).2 j = 0 + contrib m c t j := by
  have hz : ∀ j, k0_pay3 (F := Ideal) j = 0 := fun j => by pointwise [k0_pay3]
  rw [outsAt0_A m c t h (by omega)]
  frame_out
  idx_vars j
  rw [zero_add]
  refine (step_at _ _ _ _ _ _ _ _ _).trans ?_
  rw [hz]
  exact zero_add _

/-- What every later point leaves. -/
theorem sum_next (c : Dev nD) (t : Fin cfg0.N) (h : ¬ t.val % 32 = 0) (j : S512x1024.Idx) :
    (outsAt0 m c t.val t.isLt).2 j
      = (outsAt0 m c (t.val - 1) (Nat.lt_of_le_of_lt (Nat.sub_le _ _) t.isLt)).2 j + contrib m c t j := by
  by_cases h1 : t.val % 32 = 31
  · rw [outsAt0_C m c t h h1]
    frame_out
    idx_vars j
    refine (step_at _ _ _ _ _ _ _ _ _).trans ?_
    rw [show View.read (Elt Ideal) (View.whole cc0_scratch0) (scW.unread (outsAt0 m c (t.val - 1) (Nat.lt_of_le_of_lt (Nat.sub_le _ _) t.isLt)).2)
      = (outsAt0 m c (t.val - 1) (Nat.lt_of_le_of_lt (Nat.sub_le _ _) t.isLt)).2 from scW.read_unread _]
    rfl
  · rw [outsAt0_B m c t h h1]
    frame_out
    idx_vars j
    refine (step_at _ _ _ _ _ _ _ _ _).trans ?_
    rw [show View.read (Elt Ideal) (View.whole cc0_scratch0) (scW.unread (outsAt0 m c (t.val - 1) (Nat.lt_of_le_of_lt (Nat.sub_le _ _) t.isLt)).2)
      = (outsAt0 m c (t.val - 1) (Nat.lt_of_le_of_lt (Nat.sub_le _ _) t.isLt)).2 from scW.read_unread _]
    rfl

/-- What the last point of a row block writes back. -/
theorem out_last (c : Dev nD) (t : Fin cfg0.N) (h : t.val % 32 = 31) :
    (outsAt0 m c t.val t.isLt).1 = k0_pay2 (iblk m c 0 t) (iblk m c 3 t) (outsAt0 m c t.val t.isLt).2 := by
  rw [outsAt0_C m c t (by omega) h]
  frame_out

/-- Row `a` of point `t`'s block, as a row of the whole array. -/
def row (t : Fin cfg0.N) (a : Fin 512) : Fin 18432 :=
  ⟨512 * (t.val / 32) + a.val, by have h : t.val < 1152 := lt_of_lt_of_eq t.isLt N_0; have := a.isLt; omega⟩

/-- The modulation row of point `t`'s block. -/
def mrow (t : Fin cfg0.N) : Fin 16 :=
  ⟨if t.val / 32 < 32 then t.val / 128 else 8, by have h : t.val < 1152 := lt_of_lt_of_eq t.isLt N_0; split_ifs <;> omega⟩

theorem V_gate (c : Dev nD) : V m c main_v0 = shapeCast S32x1024x256 (m ((c : Thread nD τ).loc main_arg4)) shapeCasts_S4x8x1024x256_S32x1024x256 := by
  entry_read
  rfl

theorem V_up (c : Dev nD) : V m c main_v1 = shapeCast S32x1024x256 (m ((c : Thread nD τ).loc main_arg5)) shapeCasts_S4x8x1024x256_S32x1024x256 := by
  entry_read
  rfl

theorem V_down (c : Dev nD) : V m c main_v2 = shapeCast S32x256x1024 (m ((c : Thread nD τ).loc main_arg6)) shapeCasts_S4x8x256x1024_S32x256x1024 := by
  entry_read
  rfl

theorem rd0 (c : Dev nD) (t : Fin cfg0.N) (a : Fin 512) (b : Fin 1024) :
    (show FVec Ideal S512x1024 .f32 from iblk m c 0 t) (ix2 a b) = (show FVec Ideal S18432x1024 .f32 from m ((c : Thread nD τ).loc main_arg0)) (ix2 (row t a) b) := by
  blk_ext [iblk, V, idx t, row]

theorem rd1 (c : Dev nD) (t : Fin cfg0.N) (a : Fin 512) (b : Fin 1024) :
    (show FVec Ideal S512x1024 .bf16 from iblk m c 1 t) (ix2 a b) = (show FVec Ideal S18432x1024 .bf16 from m ((c : Thread nD τ).loc main_arg1)) (ix2 (row t a) b) := by
  blk_ext [iblk, V, idx t, row]

theorem rd2 (c : Dev nD) (t : Fin cfg0.N) (a : Fin 512) (b : Fin 128) :
    (show FVec Ideal S512x128 .f32 from iblk m c 2 t) (ix2 a b) = (show FVec Ideal S18432x128 .f32 from m ((c : Thread nD τ).loc main_arg2)) (ix2 (row t a) b) := by
  blk_ext [iblk, V, idx t, row]

theorem rd3 (c : Dev nD) (t : Fin cfg0.N) (b : Fin 1024) :
    (show FVec Ideal S1x6x1024 .f32 from iblk m c 3 t) (ix3 0 5 b) = (show FVec Ideal S16x6x1024 .f32 from m ((c : Thread nD τ).loc main_arg3)) (ix3 (mrow t) 5 b) := by
  blk_ext [iblk, V, idx t, mrow]

/-- Expert `e` of group `g` is expert `8 g + e` of the reshaped stack. -/
theorem flat_gate (W : FVec Ideal S4x8x1024x256 .f32) (x : Fin 32) (k : Fin 1024) (f : Fin 256) :
    shapeCast S32x1024x256 W shapeCasts_S4x8x1024x256_S32x1024x256 (ix3 x k f) = W (ix4 ⟨x.val / 8, by omega⟩ ⟨x.val % 8, by omega⟩ k f) := by
  pointwise

theorem flat_down (W : FVec Ideal S4x8x256x1024 .f32) (x : Fin 32) (f : Fin 256) (b : Fin 1024) :
    shapeCast S32x256x1024 W shapeCasts_S4x8x256x1024_S32x256x1024 (ix3 x f b) = W (ix4 ⟨x.val / 8, by omega⟩ ⟨x.val % 8, by omega⟩ f b) := by
  pointwise

/-- The group and the place in it of point `t`'s expert. -/
def grp (t : Fin cfg0.N) : Fin 4 := ⟨t.val % 32 / 8, by omega⟩
def mem (t : Fin cfg0.N) : Fin 8 := ⟨t.val % 32 % 8, by omega⟩

theorem rd4 (c : Dev nD) (t : Fin cfg0.N) (k : Fin 1024) (f : Fin 256) :
    (show FVec Ideal S1x1024x256 .f32 from iblk m c 4 t) (ix3 0 k f) = (show FVec Ideal S4x8x1024x256 .f32 from m ((c : Thread nD τ).loc main_arg4)) (ix4 (grp t) (mem t) k f) := by
  have h1 : (show FVec Ideal S1x1024x256 .f32 from iblk m c 4 t) (ix3 0 k f) = (show FVec Ideal S32x1024x256 .f32 from V m c main_v0) (ix3 ⟨t.val % 32, by omega⟩ k f) := by
    blk_ext [iblk, idx t]
  rw [h1, V_gate]
  exact flat_gate _ _ _ _

theorem rd5 (c : Dev nD) (t : Fin cfg0.N) (k : Fin 1024) (f : Fin 256) :
    (show FVec Ideal S1x1024x256 .f32 from iblk m c 5 t) (ix3 0 k f) = (show FVec Ideal S4x8x1024x256 .f32 from m ((c : Thread nD τ).loc main_arg5)) (ix4 (grp t) (mem t) k f) := by
  have h1 : (show FVec Ideal S1x1024x256 .f32 from iblk m c 5 t) (ix3 0 k f) = (show FVec Ideal S32x1024x256 .f32 from V m c main_v1) (ix3 ⟨t.val % 32, by omega⟩ k f) := by
    blk_ext [iblk, idx t]
  rw [h1, V_up]
  exact flat_gate _ _ _ _

theorem rd6 (c : Dev nD) (t : Fin cfg0.N) (f : Fin 256) (b : Fin 1024) :
    (show FVec Ideal S1x256x1024 .f32 from iblk m c 6 t) (ix3 0 f b) = (show FVec Ideal S4x8x256x1024 .f32 from m ((c : Thread nD τ).loc main_arg6)) (ix4 (grp t) (mem t) f b) := by
  have h1 : (show FVec Ideal S1x256x1024 .f32 from iblk m c 6 t) (ix3 0 f b) = (show FVec Ideal S32x256x1024 .f32 from V m c main_v2) (ix3 ⟨t.val % 32, by omega⟩ f b) := by
    blk_ext [iblk, idx t]
  rw [h1, V_down]
  exact flat_down _ _ _ _

/-- A point's contribution is the reference's term of that expert, at the block's row. -/
theorem contrib_eq (c : Dev nD) (t : Fin cfg0.N) (a : Fin 512) (b : Fin 1024) :
    contrib m c t (ix2 a b) = term (m ((c : Thread nD τ).loc main_arg1)) (m ((c : Thread nD τ).loc main_arg2)) (m ((c : Thread nD τ).loc main_arg4))
      (m ((c : Thread nD τ).loc main_arg5)) (m ((c : Thread nD τ).loc main_arg6)) (row t a) b (grp t) (mem t) := by
  have hl : (⟨(grid0.coords t 1).val, lt_of_lt_of_le (grid0.coords t 1).isLt (by decide)⟩ : Fin 128) = ⟨8 * (grp t).val + (mem t).val, by omega⟩ :=
    Fin.ext (by have h := (idx t).2.2.2.2.2.2.2.2; simp only [grp, mem] at *; omega)
  show expertAt (fun k => (show FVec Ideal S512x1024 .bf16 from iblk m c 1 t) (ix2 a k))
    (fun k f => (show FVec Ideal S1x1024x256 .f32 from iblk m c 4 t) (ix3 0 k f))
    (fun k f => (show FVec Ideal S1x1024x256 .f32 from iblk m c 5 t) (ix3 0 k f))
    ((show FVec Ideal S512x128 .f32 from iblk m c 2 t) (ix2 a ⟨(grid0.coords t 1).val, lt_of_lt_of_le (grid0.coords t 1).isLt (by decide)⟩))
    (fun f => (show FVec Ideal S1x256x1024 .f32 from iblk m c 6 t) (ix3 0 f b)) = _
  rw [hl, rd2]
  simp only [rd1, rd4, rd5, rd6]
  rfl

theorem wr7 (t : Fin cfg0.N) (a : Fin 512) (b : Fin 1024) (G : FVec Ideal S18432x1024 .f32) :
    G (((View.whole main_v3).slice (win0_7.rect t)).emb (ix2 a b)) = G (ix2 (row t a) b) := by
  blk_ext [idx t, row]

theorem mrow_val (t : Fin cfg0.N) (a : Fin 512) :
    (mrow t).val = if (row t a).val < 16384 then (row t a).val / 2048 else 8 := by
  have h : t.val < 1152 := lt_of_lt_of_eq t.isLt N_0
  have ha := a.isLt
  by_cases h1 : t.val / 32 < 32
  · rw [if_pos (show (row t a).val < 16384 by simp only [row]; omega)]
    simp only [mrow, row, if_pos h1]; omega
  · rw [if_neg (show ¬ (row t a).val < 16384 by simp only [row]; omega)]
    simp only [mrow, if_neg h1]

/-- The result array is the reference's term. -/
theorem final (c : Dev nD) :
    (dats m 0 c).arrAt 7 cfg0.N
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t hf y => ?_
  have h31 := (flush0_7 t).mp hf
  blk_simp
  rw [after0_7, out_last m c t h31]
  idx_vars y
  refine (last_at _ _ _ _ _).trans ?_
  refine Eq.trans ?_ (wr7 t y0 y1 _).symm
  rw [REF_at _ _ _ _ _ _ _ _ _ (mrow t) (mrow_val t y0), experts_at]
  refine congrArg₂ (fun x y : EReal => x + y) (rd0 m c t y0 y1) (congrArg₂ (fun x y : EReal => x * y) (rd3 m c t y1) ?_)
  rw [Pipeline.eq_sum_fin_of_reset_step_apply_of_flush (fun n h => (outsAt0 m c n h).2) 32 (fun _ => 0) (contrib m c)
    (fun t h j => sum_first m c t h j) (fun t h j => sum_next m c t h j) t h31 _, zero_add]
  refine Fin.sum_divmod_congr fun s h1 h2 => ?_
  refine (contrib_eq m c _ y0 y1).trans ?_
  have hN : t.val < 1152 := lt_of_lt_of_eq t.isLt N_0
  have hs := s.isLt
  rw [show row (⟨32 * (t.val / 32) + s.val, Pipeline.run_point_lt_of_flush t h31 s⟩ : Fin cfg0.N) y0 = row t y0 from
      Fin.ext (by simp only [row]; omega),
    show grp (⟨32 * (t.val / 32) + s.val, Pipeline.run_point_lt_of_flush t h31 s⟩ : Fin cfg0.N) = ⟨s.val / 8, h1⟩ from
      Fin.ext (by simp only [grp]; omega),
    show mem (⟨32 * (t.val / 32) + s.val, Pipeline.run_point_lt_of_flush t h31 s⟩ : Fin cfg0.N) = ⟨s.val % 8, h2⟩ from
      Fin.ext (by simp only [mem]; omega)]

end Cert.MoeIdeal.KVal

end
-- ==== Proof.NormValue.lean ====
/-
  The final normalization: what the tiled kernel leaves in its result array, as one function of the residual stream
  and the gain. `REF` is the reference's own composed term; `point` says that each block of 512 rows holds the
  corresponding rows of `REF`; `final` that the blocks together are the whole array.
-/
module

public import proofs.«01_k».proof.Proof.Gen.NormIdeal.Value
public import proofs.«01_k».proof.Proof.Gen.NormRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-- The reference's result as a function of its two arguments. -/
def Cert.NormRefIdeal.REF (X : FVec Ideal Cert.NormRefIdeal.S18432x1024 .f32)
    (G : FVec Ideal Cert.NormRefIdeal.S1024 .f32) : FVec Ideal Cert.NormRefIdeal.S16384x1024 .f32 :=
  open Cert.NormRefIdeal Cert.NormRefIdeal.Gen in
  mulf (mulf (extractStridedSlice S16384x1024 ![0, 0] X slices_S18432x1024_S16384x1024_0_0) (broadcastInDim S16384x1024 ![0, 1] bcast_S16384x1_S16384x1024_0_1 (Host.rsqrt (addf (Host.divf (broadcastInDim S16384x1 ![0] bcast_S16384_S16384x1_0 (Host.reduceAdd (mulf (extractStridedSlice S16384x1024 ![0, 0] X slices_S18432x1024_S16384x1024_0_0) (extractStridedSlice S16384x1024 ![0, 0] X slices_S18432x1024_S16384x1024_0_0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 G))

namespace Cert.NormIdeal.KVal

open Cert.NormIdeal Cert.NormIdeal.Gen
open Cert.NormRefIdeal (REF)

variable (m : (ℓ : Loc nD τ sig) → Buf (Elt Ideal) ℓ)

/-- Point `t` of the grid holds rows `512 t …` of the stream and of the result, and the whole gain. -/
theorem idx : ∀ t : Fin cfg0.N,
    win0_0.index t = ![t.val, 0] ∧ win0_1.index t = ![0, 0] ∧ win0_2.index t = ![t.val, 0] :=
  (by decide +kernel : ∀ t : Fin grid0.N, _)

/-- The gain the region reads is the argument, laid out as one row. -/
theorem V_gain (c : Dev nD) : V m c main_v0 = shapeCast S1x1024 (m ((c : Thread nD τ).loc main_arg1)) shapeCasts_S1024_S1x1024 := by
  entry_read
  rfl

/-- The gain's window at column `b`. -/
theorem rd_gain (c : Dev nD) (t : Fin cfg0.N) (a : Fin 1) (b : Fin 1024) :
    (show FVec Ideal S1x1024 .f32 from iblk m c 1 t) (ix2 a b) = (show FVec Ideal S1024 .f32 from m ((c : Thread nD τ).loc main_arg1)) (ix1 b) := by
  have h : (show FVec Ideal S1x1024 .f32 from iblk m c 1 t) (ix2 a b) = (show FVec Ideal S1x1024 .f32 from V m c main_v0) (ix2 a b) := by
    blk_ext [iblk, idx t]
  rw [h, V_gain]
  pointwise

/-- One block of the kernel is the block of the reference. -/
theorem point (c : Dev nD) (t : Fin cfg0.N) (y) :
    k0_pay1 (F := Ideal) (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, idx t, rd_gain m c]

/-- The result array is the reference's term. -/
theorem final (c : Dev nD) :
    (dats m 0 c).arrAt 2 cfg0.N
      = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormIdeal.KVal

end
-- ==== Proof.InprojRef.lean ====
/-
  The input projection, the reference: its intermediate arrays as functions of the four arguments (under the numbers
  of the printed program), and its results read entry by entry. `hid` is an entry of the normalized and modulated stream, `U` an
  entry of the projection, `ang` the angle a column of a head is rotated by.
-/
module

public import proofs.«01_k».proof.Proof.Gen.InprojIdeal.Value
public import proofs.«01_k».proof.Proof.Gen.InprojRefIdeal
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojRefIdeal.Part

open Cert.InprojRefIdeal Cert.InprojRefIdeal.Gen

def r_v1 (X : FVec Ideal S18432x1024 .f32) : FVec Ideal S8x2048x1024 .f32 :=
  shapeCast S8x2048x1024 (extractStridedSlice S16384x1024 ![0, 0] X slices_S18432x1024_S16384x1024_0_0) shapeCasts_S16384x1024_S8x2048x1024

def r_v27 (X : FVec Ideal S18432x1024 .f32) : FVec Ideal S2048x1024 .f32 :=
  extractStridedSlice S2048x1024 ![16384, 0] X slices_S18432x1024_S2048x1024_16384_0

def r_v53 (X : FVec Ideal S18432x1024 .f32) (M : FVec Ideal S16x6x1024 .f32) (G : FVec Ideal S1024 .f32) (W : FVec Ideal S1024x2576 .f32) : FVec Ideal S8x2048x2576 .f32 :=
  Host.dotGeneral dot_S8x2048x1024_S1024x2576_S8x2048x2576_2_0_01_1_n_n none (addf (mulf (mulf (mulf (r_v1 X) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (r_v1 X) (r_v1 X)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] M slices_S16x6x1024_S8x1x1024_0_1_0) shapeCasts_S8x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![0, 0, 0] M slices_S16x6x1024_S8x1x1024_0_0_0) shapeCasts_S8x1x1024_S8x1024)))) W

def r_v54 (X : FVec Ideal S18432x1024 .f32) (M : FVec Ideal S16x6x1024 .f32) (G : FVec Ideal S1024 .f32) (W : FVec Ideal S1024x2576 .f32) : FVec Ideal S2048x2576 .f32 :=
  Host.dotGeneral dot_S2048x1024_S1024x2576_S2048x2576_1_0_0_1_n_n none (addf (mulf (mulf (mulf (r_v27 X) (broadcastInDim S2048x1024 ![0, 1] bcast_S2048x1_S2048x1024_0_1 (Host.rsqrt (addf (Host.divf (broadcastInDim S2048x1 ![0] bcast_S2048_S2048x1_0 (Host.reduceAdd (mulf (r_v27 X) (r_v27 X)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 G))) (broadcastInDim S2048x1024 ![0, 1] bcast_S1x1024_S2048x1024_0_1 (broadcastInDim S1x1024 ![1] bcast_S1024_S1x1024_1 (addf (broadcastInDim S1024 ![] bcast_S_S1024 (constant S_ .f32 0x3F800000#32)) (shapeCast _ (extractStridedSlice S1x1x1024 ![8, 1, 0] M slices_S16x6x1024_S1x1x1024_8_1_0) shapeCasts_S1x1x1024_S1024))))) (broadcastInDim S2048x1024 ![0, 1] bcast_S1x1024_S2048x1024_0_1 (broadcastInDim S1x1024 ![1] bcast_S1024_S1x1024_1 (shapeCast _ (extractStridedSlice S1x1x1024 ![8, 0, 0] M slices_S16x6x1024_S1x1x1024_8_0_0) shapeCasts_S1x1x1024_S1024)))) W

def r_v55 : IVec S2048 32 :=
  iotaInDim S2048 32 0

def r_call0_v0 : IVec S_ 32 :=
  id (constantI S_ 32 64#32)

def r_call0_v2 : IVec S2048 32 :=
  Host.divsi (r_v55) (broadcastInDim S2048 ![] bcast_S_S2048 (r_call0_v0))

def r_call1_v0 : IVec S_ 32 :=
  id (constantI S_ 32 64#32)

def r_call1_v2 : IVec S_ 32 :=
  select (cmpi .eq (r_call1_v0) (constantI S_ 32 0#32)) (constantI S_ 32 1#32) (r_call1_v0)

def r_call1_v4 : IVec S2048 32 :=
  Host.remsi (r_v55) (broadcastInDim S2048 ![] bcast_S_S2048 (r_call1_v2))

def r_v59 (X : FVec Ideal S18432x1024 .f32) (M : FVec Ideal S16x6x1024 .f32) (G : FVec Ideal S1024 .f32) (W : FVec Ideal S1024x2576 .f32) : FVec Ideal S8x2048x6x64 .f32 :=
  shapeCast S8x2048x6x64 (extractStridedSlice S8x2048x384 ![0, 0, 0] (r_v53 X M G W) slices_S8x2048x2576_S8x2048x384_0_0_0) shapeCasts_S8x2048x384_S8x2048x6x64

def r_v60 (X : FVec Ideal S18432x1024 .f32) (M : FVec Ideal S16x6x1024 .f32) (G : FVec Ideal S1024 .f32) (W : FVec Ideal S1024x2576 .f32) : FVec Ideal S8x2048x6x32 .f32 :=
  extractStridedSlice S8x2048x6x32 ![0, 0, 0, 0] (r_v59 X M G W) slices_S8x2048x6x64_S8x2048x6x32_0_0_0_0

def r_v77 : FVec Ideal S2048x16 .f32 :=
  mulf (broadcastInDim S2048x16 ![0, 1] bcast_S2048x1_S2048x16_0_1 (broadcastInDim S2048x1 ![0] bcast_S2048_S2048x1_0 (sitofp .f32 (select (andi (cmpi .ne (signi (r_v55)) (broadcastInDim S2048 ![] bcast_S_S2048 (signi (r_call0_v0)))) (cmpi .ne (Host.remsi (r_v55) (broadcastInDim S2048 ![] bcast_S_S2048 (r_call0_v0))) (broadcastInDim S2048 ![] bcast_S_S2048 (constantI S_ 32 0#32)))) (subi (r_call0_v2) (broadcastInDim S2048 ![] bcast_S_S2048 (constantI S_ 32 1#32))) (r_call0_v2))))) (broadcastInDim S2048x16 ![0, 1] bcast_S1x16_S2048x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))

def r_v79 : FVec Ideal S2048x1x16 .f32 :=
  broadcastInDim S2048x1x16 ![0, 2] bcast_S2048x16_S2048x1x16_0_2 (Host.cos (r_v77))

def r_v81 : FVec Ideal S2048x1x16 .f32 :=
  broadcastInDim S2048x1x16 ![0, 2] bcast_S2048x16_S2048x1x16_0_2 (Host.sin (r_v77))

def r_v82 (X : FVec Ideal S18432x1024 .f32) (M : FVec Ideal S16x6x1024 .f32) (G : FVec Ideal S1024 .f32) (W : FVec Ideal S1024x2576 .f32) : FVec Ideal S8x2048x6x16 .f32 :=
  extractStridedSlice S8x2048x6x16 ![0, 0, 0, 0] (r_v60 X M G W) slices_S8x2048x6x32_S8x2048x6x16_0_0_0_0

def r_v83 (X : FVec Ideal S18432x1024 .f32) (M : FVec Ideal S16x6x1024 .f32) (G : FVec Ideal S1024 .f32) (W : FVec Ideal S1024x2576 .f32) : FVec Ideal S8x2048x6x16 .f32 :=
  extractStridedSlice S8x2048x6x16 ![0, 0, 0, 16] (r_v60 X M G W) slices_S8x2048x6x32_S8x2048x6x16_0_0_0_16

def r_v99 (X : FVec Ideal S18432x1024 .f32) (M : FVec Ideal S16x6x1024 .f32) (G : FVec Ideal S1024 .f32) (W : FVec Ideal S1024x2576 .f32) : FVec Ideal S8x2048x6x32 .f32 :=
  extractStridedSlice S8x2048x6x32 ![0, 0, 0, 32] (r_v59 X M G W) slices_S8x2048x6x64_S8x2048x6x32_0_0_0_32

def r_v116 : FVec Ideal S2048x16 .f32 :=
  mulf (broadcastInDim S2048x16 ![0, 1] bcast_S2048x1_S2048x16_0_1 (broadcastInDim S2048x1 ![0] bcast_S2048_S2048x1_0 (sitofp .f32 (select (andi (cmpi .ne (cmpi .slt (r_call1_v4) (broadcastInDim S2048 ![] bcast_S_S2048 (constantI S_ 32 0#32))) (broadcastInDim S2048 ![] bcast_S_S2048 (cmpi .slt (r_call1_v2) (constantI S_ 32 0#32)))) (cmpi .ne (r_call1_v4) (broadcastInDim S2048 ![] bcast_S_S2048 (constantI S_ 32 0#32)))) (addi (r_call1_v4) (broadcastInDim S2048 ![] bcast_S_S2048 (r_call1_v2))) (r_call1_v4))))) (broadcastInDim S2048x16 ![0, 1] bcast_S1x16_S2048x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))

def r_v118 : FVec Ideal S2048x1x16 .f32 :=
  broadcastInDim S2048x1x16 ![0, 2] bcast_S2048x16_S2048x1x16_0_2 (Host.cos (r_v116))

def r_v120 : FVec Ideal S2048x1x16 .f32 :=
  broadcastInDim S2048x1x16 ![0, 2] bcast_S2048x16_S2048x1x16_0_2 (Host.sin (r_v116))

def r_v121 (X : FVec Ideal S18432x1024 .f32) (M : FVec Ideal S16x6x1024 .f32) (G : FVec Ideal S1024 .f32) (W : FVec Ideal S1024x2576 .f32) : FVec Ideal S8x2048x6x16 .f32 :=
  extractStridedSlice S8x2048x6x16 ![0, 0, 0, 0] (r_v99 X M G W) slices_S8x2048x6x32_S8x2048x6x16_0_0_0_0

def r_v122 (X : FVec Ideal S18432x1024 .f32) (M : FVec Ideal S16x6x1024 .f32) (G : FVec Ideal S1024 .f32) (W : FVec Ideal S1024x2576 .f32) : FVec Ideal S8x2048x6x16 .f32 :=
  extractStridedSlice S8x2048x6x16 ![0, 0, 0, 16] (r_v99 X M G W) slices_S8x2048x6x32_S8x2048x6x16_0_0_0_16

/-- The context's query and key columns. -/
def r_ctx (X : FVec Ideal S18432x1024 .f32) (M : FVec Ideal S16x6x1024 .f32) (G : FVec Ideal S1024 .f32) (W : FVec Ideal S1024x2576 .f32) : FVec Ideal S2048x384 .f32 :=
  extractStridedSlice S2048x384 ![0, 0] (r_v54 X M G W) slices_S2048x2576_S2048x384_0_0

/-- The first 32 columns of each head, rotated by the row angles; the last 32, by the column angles; both side by side. -/
def r_row (X : FVec Ideal S18432x1024 .f32) (M : FVec Ideal S16x6x1024 .f32) (G : FVec Ideal S1024 .f32) (W : FVec Ideal S1024x2576 .f32) : FVec Ideal S8x2048x6x32 .f32 :=
  concatenate S8x2048x6x32 3 [⟨S8x2048x6x16, (subf (mulf (r_v82 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v79)))) (mulf (r_v83 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v81)))))⟩, ⟨S8x2048x6x16, (addf (mulf (r_v83 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v79)))) (mulf (r_v82 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v81)))))⟩] concatenates_S8x2048x6x16_S8x2048x6x16_S8x2048x6x32_d3

def r_col (X : FVec Ideal S18432x1024 .f32) (M : FVec Ideal S16x6x1024 .f32) (G : FVec Ideal S1024 .f32) (W : FVec Ideal S1024x2576 .f32) : FVec Ideal S8x2048x6x32 .f32 :=
  concatenate S8x2048x6x32 3 [⟨S8x2048x6x16, (subf (mulf (r_v121 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v118)))) (mulf (r_v122 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v120)))))⟩, ⟨S8x2048x6x16, (addf (mulf (r_v122 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v118)))) (mulf (r_v121 X M G W) (broadcastInDim S8x2048x6x16 ![0, 1, 2, 3] bcast_S1x2048x1x16_S8x2048x6x16_0_1_2_3 (broadcastInDim S1x2048x1x16 ![1, 2, 3] bcast_S2048x1x16_S1x2048x1x16_1_2_3 (r_v120)))))⟩] concatenates_S8x2048x6x16_S8x2048x6x16_S8x2048x6x32_d3

def r_rope (X : FVec Ideal S18432x1024 .f32) (M : FVec Ideal S16x6x1024 .f32) (G : FVec Ideal S1024 .f32) (W : FVec Ideal S1024x2576 .f32) : FVec Ideal S8x2048x6x64 .f32 :=
  concatenate S8x2048x6x64 3 [⟨S8x2048x6x32, (r_row X M G W)⟩, ⟨S8x2048x6x32, (r_col X M G W)⟩] concatenates_S8x2048x6x32_S8x2048x6x32_S8x2048x6x64_d3

def r_flat (X : FVec Ideal S18432x1024 .f32) (M : FVec Ideal S16x6x1024 .f32) (G : FVec Ideal S1024 .f32) (W : FVec Ideal S1024x2576 .f32) : FVec Ideal S16384x384 .f32 :=
  shapeCast S16384x384 (r_rope X M G W) shapeCasts_S8x2048x6x64_S16384x384

/-- Queries and keys of all tokens: the rotated ones, below them the context's as projected. -/
def r_v141 (X : FVec Ideal S18432x1024 .f32) (M : FVec Ideal S16x6x1024 .f32) (G : FVec Ideal S1024 .f32) (W : FVec Ideal S1024x2576 .f32) : FVec Ideal S18432x384 .f32 :=
  concatenate S18432x384 0 [⟨S16384x384, (r_flat X M G W)⟩, ⟨S2048x384, (r_ctx X M G W)⟩] concatenates_S16384x384_S2048x384_S18432x384_d0

def r_v148 (X : FVec Ideal S18432x1024 .f32) (M : FVec Ideal S16x6x1024 .f32) (G : FVec Ideal S1024 .f32) (W : FVec Ideal S1024x2576 .f32) : FVec Ideal S18432x2576 .f32 :=
  concatenate S18432x2576 0 [⟨S16384x2576, (shapeCast S16384x2576 (r_v53 X M G W) shapeCasts_S8x2048x2576_S16384x2576)⟩, ⟨S2048x2576, (r_v54 X M G W)⟩] concatenates_S16384x2576_S2048x2576_S18432x2576_d0

def r_v154 : FVec Ideal S18432x120 .f32 :=
  broadcastInDim S18432x120 ![] bcast_S_S18432x120 (constant S_ .f32 0x00000000#32)

def Rqk (X : FVec Ideal S18432x1024 .f32) (M : FVec Ideal S16x6x1024 .f32) (G : FVec Ideal S1024 .f32) (W : FVec Ideal S1024x2576 .f32) : FVec Ideal S18432x384 .bf16 :=
  truncf .bf16 (concatenate S18432x384 1 [⟨S18432x256, (mulf (extractStridedSlice S18432x256 ![0, 0] (r_v141 X M G W) slices_S18432x384_S18432x256_0_0) (broadcastInDim S18432x256 ![] bcast_S_S18432x256 (constant S_ .f32 0x3E000000#32)))⟩, ⟨S18432x128, (extractStridedSlice S18432x128 ![0, 256] (r_v141 X M G W) slices_S18432x384_S18432x128_0_256)⟩] concatenates_S18432x256_S18432x128_S18432x384_d1) bitsLt_bf16_f32

def Rv (X : FVec Ideal S18432x1024 .f32) (M : FVec Ideal S16x6x1024 .f32) (G : FVec Ideal S1024 .f32) (W : FVec Ideal S1024x2576 .f32) : FVec Ideal S18432x128 .bf16 :=
  truncf .bf16 (extractStridedSlice S18432x128 ![0, 384] (r_v148 X M G W) slices_S18432x2576_S18432x128_0_384) bitsLt_bf16_f32

def Rz (X : FVec Ideal S18432x1024 .f32) (M : FVec Ideal S16x6x1024 .f32) (G : FVec Ideal S1024 .f32) (W : FVec Ideal S1024x2576 .f32) : FVec Ideal S18432x512 .f32 :=
  extractStridedSlice S18432x512 ![0, 512] (r_v148 X M G W) slices_S18432x2576_S18432x512_0_512

def Rxbc (X : FVec Ideal S18432x1024 .f32) (M : FVec Ideal S16x6x1024 .f32) (G : FVec Ideal S1024 .f32) (W : FVec Ideal S1024x2576 .f32) : FVec Ideal S18432x768 .f32 :=
  extractStridedSlice S18432x768 ![0, 1024] (r_v148 X M G W) slices_S18432x2576_S18432x768_0_1024

def Rna (X : FVec Ideal S18432x1024 .f32) (M : FVec Ideal S16x6x1024 .f32) (G : FVec Ideal S1024 .f32) (W : FVec Ideal S1024x2576 .f32) : FVec Ideal S18432x768 .bf16 :=
  truncf .bf16 (concatenate S18432x768 1 [⟨S18432x256, (mulf (extractStridedSlice S18432x256 ![0, 1808] (r_v148 X M G W) slices_S18432x2576_S18432x256_0_1808) (broadcastInDim S18432x256 ![] bcast_S_S18432x256 (constant S_ .f32 0x3E000000#32)))⟩, ⟨S18432x512, (extractStridedSlice S18432x512 ![0, 2064] (r_v148 X M G W) slices_S18432x2576_S18432x512_0_2064)⟩] concatenates_S18432x256_S18432x512_S18432x768_d1) bitsLt_bf16_f32

def Rdt (X : FVec Ideal S18432x1024 .f32) (M : FVec Ideal S16x6x1024 .f32) (G : FVec Ideal S1024 .f32) (W : FVec Ideal S1024x2576 .f32) : FVec Ideal S18432x256 .f32 :=
  (concatenate S18432x256 1 [⟨S18432x8, ((extractStridedSlice S18432x8 ![0, 1792] (r_v148 X M G W) slices_S18432x2576_S18432x8_0_1792))⟩, ⟨S18432x120, (r_v154)⟩, ⟨S18432x8, ((extractStridedSlice S18432x8 ![0, 1800] (r_v148 X M G W) slices_S18432x2576_S18432x8_0_1800))⟩, ⟨S18432x120, (r_v154)⟩] concatenates_S18432x8_S18432x120_S18432x8_S18432x120_S18432x256_d1)

/-- Row `r`, column `k` of the normalized stream, modulated by row `p` of the modulation. -/
def hid (X : FVec Ideal S18432x1024 .f32) (M : FVec Ideal S16x6x1024 .f32) (G : FVec Ideal S1024 .f32) (r : Fin 18432) (p : Fin 16) (k : Fin 1024) : EReal :=
  X (ix2 r k) * Ideal.rsqrt (Ideal.div (∑ x : Fin 1024, X (ix2 r x) * X (ix2 r x)) (Ideal.ofBits .f32 1149239296#32) + Ideal.ofBits .f32 897988541#32)
    * G (ix1 k) * (1 + M (ix3 p 1 k)) + M (ix3 p 0 k)

/-- The modulation row of a token: its batch entry's, or the ninth for the context. -/
def mr (r : Fin 18432) : Fin 16 := ⟨if r.val < 16384 then r.val / 2048 else 8, by have := r.isLt; by_cases h : r.val < 16384 <;> simp only [h, if_true, if_false] <;> omega⟩

/-- An entry of the projection. -/
def U (X : FVec Ideal S18432x1024 .f32) (M : FVec Ideal S16x6x1024 .f32) (G : FVec Ideal S1024 .f32) (W : FVec Ideal S1024x2576 .f32) (r : Fin 18432) (c : Fin 2576) : EReal :=
  ∑ k : Fin 1024, hid X M G r (mr r) k * W (ix2 k c)

/-- The angle of column `c` of a head at position `s`. -/
def ang (s : Fin 2048) (c : Nat) : EReal :=
  if c % 64 < 32 then r_v77 (ix2 s ⟨c % 16, by omega⟩) else r_v116 (ix2 s ⟨c % 16, by omega⟩)

variable (X : FVec Ideal S18432x1024 .f32) (M : FVec Ideal S16x6x1024 .f32) (G : FVec Ideal S1024 .f32) (W : FVec Ideal S1024x2576 .f32)

theorem v53_raw (b : Fin 8) (s : Fin 2048) (c : Fin 2576) :
    r_v53 X M G W (ix3 b s c) = ∑ k : Fin 1024, hid X M G ⟨b.val * 2048 + s.val, by omega⟩ ⟨b.val, by omega⟩ k * W (ix2 k c) := by
  pointwise [r_v53, r_v1]
  rfl

theorem v54_raw (s : Fin 2048) (c : Fin 2576) :
    r_v54 X M G W (ix2 s c) = ∑ k : Fin 1024, hid X M G ⟨16384 + s.val, by omega⟩ 8 k * W (ix2 k c) := by
  pointwise [r_v54, r_v27]
  rfl

theorem v53_at (b : Fin 8) (s : Fin 2048) (c : Fin 2576) (r : Fin 18432) (c' : Fin 2576) (h : b.val * 2048 + s.val = r.val) (hc : c.val = c'.val) :
    r_v53 X M G W (ix3 b s c) = U X M G W r c' := by
  obtain rfl : c = c' := Fin.ext hc
  have hr : (⟨b.val * 2048 + s.val, by omega⟩ : Fin 18432) = r := Fin.ext h
  have hp : (⟨b.val, by omega⟩ : Fin 16) = mr r := Fin.ext (by
    show b.val = if r.val < 16384 then r.val / 2048 else 8
    rw [if_pos (by omega)]; omega)
  rw [v53_raw, hr, hp]
  rfl

theorem v54_at (s : Fin 2048) (c : Fin 2576) (r : Fin 18432) (c' : Fin 2576) (h : 16384 + s.val = r.val) (hc : c.val = c'.val) :
    r_v54 X M G W (ix2 s c) = U X M G W r c' := by
  obtain rfl : c = c' := Fin.ext hc
  have hr : (⟨16384 + s.val, by omega⟩ : Fin 18432) = r := Fin.ext h
  have hp : (8 : Fin 16) = mr r := Fin.ext (by
    show 8 = if r.val < 16384 then r.val / 2048 else 8
    rw [if_neg (by omega)])
  rw [v54_raw, hr, hp]
  rfl

theorem v148_at (r : Fin 18432) (c : Fin 2576) : r_v148 X M G W (ix2 r c) = U X M G W r c := by
  pointwise [r_v148]
  by_cases h : r.val < 16384
  · rw [dif_pos h]
    exact v53_at X M G W _ _ _ _ _ (by simp only []; omega) rfl
  · rw [dif_neg h]
    exact v54_at X M G W _ _ _ _ (by simp only []; omega) rfl

theorem v82_at (b : Fin 8) (s : Fin 2048) (h : Fin 6) (i : Fin 16) : r_v82 X M G W (ix4 b s h i) = r_v53 X M G W (ix3 b s ⟨h.val * 64 + i.val, by omega⟩) := by
  pointwise [r_v82, r_v60, r_v59]

theorem v83_at (b : Fin 8) (s : Fin 2048) (h : Fin 6) (i : Fin 16) : r_v83 X M G W (ix4 b s h i) = r_v53 X M G W (ix3 b s ⟨h.val * 64 + (16 + i.val), by omega⟩) := by
  pointwise [r_v83, r_v60, r_v59]

theorem v121_at (b : Fin 8) (s : Fin 2048) (h : Fin 6) (i : Fin 16) : r_v121 X M G W (ix4 b s h i) = r_v53 X M G W (ix3 b s ⟨h.val * 64 + (32 + i.val), by omega⟩) := by
  pointwise [r_v121, r_v99, r_v59]

theorem v122_at (b : Fin 8) (s : Fin 2048) (h : Fin 6) (i : Fin 16) : r_v122 X M G W (ix4 b s h i) = r_v53 X M G W (ix3 b s ⟨h.val * 64 + (32 + (16 + i.val)), by omega⟩) := by
  pointwise [r_v122, r_v99, r_v59]

theorem row_at (b : Fin 8) (s : Fin 2048) (h : Fin 6) (i : Fin 32) : r_row X M G W (ix4 b s h i)
    = if h1 : i.val < 16 then r_v82 X M G W (ix4 b s h ⟨i.val, h1⟩) * Ideal.cos (r_v77 (ix2 s ⟨i.val, h1⟩)) - r_v83 X M G W (ix4 b s h ⟨i.val, h1⟩) * Ideal.sin (r_v77 (ix2 s ⟨i.val, h1⟩))
      else r_v83 X M G W (ix4 b s h ⟨i.val - 16, by omega⟩) * Ideal.cos (r_v77 (ix2 s ⟨i.val - 16, by omega⟩)) + r_v82 X M G W (ix4 b s h ⟨i.val - 16, by omega⟩) * Ideal.sin (r_v77 (ix2 s ⟨i.val - 16, by omega⟩)) := by
  pointwise [r_row, r_v79, r_v81]

theorem col_at (b : Fin 8) (s : Fin 2048) (h : Fin 6) (i : Fin 32) : r_col X M G W (ix4 b s h i)
    = if h1 : i.val < 16 then r_v121 X M G W (ix4 b s h ⟨i.val, h1⟩) * Ideal.cos (r_v116 (ix2 s ⟨i.val, h1⟩)) - r_v122 X M G W (ix4 b s h ⟨i.val, h1⟩) * Ideal.sin (r_v116 (ix2 s ⟨i.val, h1⟩))
      else r_v122 X M G W (ix4 b s h ⟨i.val - 16, by omega⟩) * Ideal.cos (r_v116 (ix2 s ⟨i.val - 16, by omega⟩)) + r_v121 X M G W (ix4 b s h ⟨i.val - 16, by omega⟩) * Ideal.sin (r_v116 (ix2 s ⟨i.val - 16, by omega⟩)) := by
  pointwise [r_col, r_v118, r_v120]

theorem rope_at (b : Fin 8) (s : Fin 2048) (h : Fin 6) (i : Fin 64) : r_rope X M G W (ix4 b s h i)
    = if h1 : i.val < 32 then r_row X M G W (ix4 b s h ⟨i.val, h1⟩) else r_col X M G W (ix4 b s h ⟨i.val - 32, by omega⟩) := by
  pointwise [r_rope]

/-- The value of a query or key column of a token: rotated for the tokens of the batches, as projected for the context. -/
def rot (r : Fin 18432) (c : Fin 384) : EReal :=
  if r.val < 16384 then
    if c.val % 32 < 16 then
      U X M G W r ⟨c.val, by omega⟩ * Ideal.cos (ang ⟨r.val % 2048, by omega⟩ c.val)
        - U X M G W r ⟨c.val + 16, by omega⟩ * Ideal.sin (ang ⟨r.val % 2048, by omega⟩ c.val)
    else
      U X M G W r ⟨c.val, by omega⟩ * Ideal.cos (ang ⟨r.val % 2048, by omega⟩ c.val)
        + U X M G W r ⟨c.val - 16, by omega⟩ * Ideal.sin (ang ⟨r.val % 2048, by omega⟩ c.val)
  else U X M G W r ⟨c.val, by omega⟩

theorem ang_row (s s' : Fin 2048) (i : Fin 16) (c : Nat) (hs : s.val = s'.val) (h : c % 64 < 32) (hi : i.val = c % 16) : r_v77 (ix2 s i) = ang s' c := by
  obtain rfl : s = s' := Fin.ext hs
  unfold ang
  rw [if_pos h]
  exact congrArg (fun i : Fin 16 => r_v77 (ix2 s i)) (Fin.ext hi)

theorem ang_col (s s' : Fin 2048) (i : Fin 16) (c : Nat) (hs : s.val = s'.val) (h : ¬ c % 64 < 32) (hi : i.val = c % 16) : r_v116 (ix2 s i) = ang s' c := by
  obtain rfl : s = s' := Fin.ext hs
  unfold ang
  rw [if_neg h]
  exact congrArg (fun i : Fin 16 => r_v116 (ix2 s i)) (Fin.ext hi)

theorem flat_at (r : Fin 16384) (c : Fin 384) : r_flat X M G W (ix2 r c)
    = r_rope X M G W (ix4 ⟨r.val / 2048, by omega⟩ ⟨r.val % 2048, by omega⟩ ⟨c.val / 64, by omega⟩ ⟨c.val % 64, by omega⟩) := by
  pointwise [r_flat]

theorem ctx_at (r : Fin 2048) (c : Fin 384) : r_ctx X M G W (ix2 r c) = r_v54 X M G W (ix2 r ⟨c.val, by omega⟩) := by
  pointwise [r_ctx]

theorem v141_raw (r : Fin 18432) (c : Fin 384) : r_v141 X M G W (ix2 r c)
    = if h : r.val < 16384 then r_flat X M G W (ix2 ⟨r.val, h⟩ c)
      else r_ctx X M G W (ix2 ⟨r.val - 16384, by omega⟩ c) := by
  pointwise [r_v141]

theorem v141_at (r : Fin 18432) (c : Fin 384) : r_v141 X M G W (ix2 r c) = rot X M G W r c := by
  rw [v141_raw]
  unfold rot
  by_cases h : r.val < 16384
  · rw [dif_pos h, if_pos h, flat_at, rope_at]
    by_cases h1 : c.val % 64 < 32
    · rw [dif_pos (show (⟨c.val % 64, by omega⟩ : Fin 64).val < 32 from h1), row_at]
      by_cases h2 : c.val % 32 < 16
      · rw [if_pos h2, dif_pos (show (⟨c.val % 64, by omega⟩ : Fin 32).val < 16 by simp only []; omega)]
        rw [v82_at, v83_at, v53_at X M G W _ _ _ r ⟨c.val, by omega⟩ (by simp only []; omega) (by simp only []; omega),
          v53_at X M G W _ _ _ r ⟨c.val + 16, by omega⟩ (by simp only []; omega) (by simp only []; omega),
          ang_row _ ⟨r.val % 2048, by omega⟩ _ c.val rfl h1 (by simp only []; omega)]
      · rw [if_neg h2, dif_neg (show ¬ (⟨c.val % 64, by omega⟩ : Fin 32).val < 16 by simp only []; omega)]
        rw [v82_at, v83_at, v53_at X M G W _ _ _ r ⟨c.val, by omega⟩ (by simp only []; omega) (by simp only []; omega),
          v53_at X M G W _ _ _ r ⟨c.val - 16, by omega⟩ (by simp only []; omega) (by simp only []; omega),
          ang_row _ ⟨r.val % 2048, by omega⟩ _ c.val rfl h1 (by simp only []; omega)]
    · rw [dif_neg (show ¬ (⟨c.val % 64, by omega⟩ : Fin 64).val < 32 from h1), col_at]
      by_cases h2 : c.val % 32 < 16
      · rw [if_pos h2, dif_pos (show (⟨c.val % 64 - 32, by omega⟩ : Fin 32).val < 16 by simp only []; omega)]
        rw [v121_at, v122_at, v53_at X M G W _ _ _ r ⟨c.val, by omega⟩ (by simp only []; omega) (by simp only []; omega),
          v53_at X M G W _ _ _ r ⟨c.val + 16, by omega⟩ (by simp only []; omega) (by simp only []; omega),
          ang_col _ ⟨r.val % 2048, by omega⟩ _ c.val rfl h1 (by simp only []; omega)]
      · rw [if_neg h2, dif_neg (show ¬ (⟨c.val % 64 - 32, by omega⟩ : Fin 32).val < 16 by simp only []; omega)]
        rw [v121_at, v122_at, v53_at X M G W _ _ _ r ⟨c.val, by omega⟩ (by simp only []; omega) (by simp only []; omega),
          v53_at X M G W _ _ _ r ⟨c.val - 16, by omega⟩ (by simp only []; omega) (by simp only []; omega),
          ang_col _ ⟨r.val % 2048, by omega⟩ _ c.val rfl h1 (by simp only []; omega)]
  · rw [dif_neg h, if_neg h, ctx_at]
    exact v54_at X M G W _ _ _ _ (by simp only []; omega) rfl

/-! The six results, entry by entry. -/

theorem Rqk_at (r : Fin 18432) (c : Fin 384) : Rqk X M G W (ix2 r c) = if c.val < 256 then rot X M G W r c * Ideal.ofBits .f32 1040187392#32 else rot X M G W r c := by
  pointwise [Rqk]
  by_cases h : c.val < 256
  · rw [dif_pos h, if_pos h, v141_at]
  · rw [dif_neg h, if_neg h, v141_at]
    exact congrArg (rot X M G W r) (Fin.ext (by simp only []; omega))

theorem Rv_at (r : Fin 18432) (c : Fin 128) : Rv X M G W (ix2 r c) = U X M G W r ⟨384 + c.val, by omega⟩ := by
  pointwise [Rv]
  exact v148_at X M G W _ _

theorem Rz_at (r : Fin 18432) (c : Fin 512) : Rz X M G W (ix2 r c) = U X M G W r ⟨512 + c.val, by omega⟩ := by
  pointwise [Rz]
  exact v148_at X M G W _ _

theorem Rxbc_at (r : Fin 18432) (c : Fin 768) : Rxbc X M G W (ix2 r c) = U X M G W r ⟨1024 + c.val, by omega⟩ := by
  pointwise [Rxbc]
  exact v148_at X M G W _ _

theorem Rna_at (r : Fin 18432) (c : Fin 768) : Rna X M G W (ix2 r c)
    = if c.val < 256 then U X M G W r ⟨1808 + c.val, by omega⟩ * Ideal.ofBits .f32 1040187392#32 else U X M G W r ⟨1808 + c.val, by omega⟩ := by
  pointwise [Rna]
  by_cases h : c.val < 256
  · rw [dif_pos h, if_pos h, v148_at]
  · rw [dif_neg h, if_neg h, v148_at]
    exact congrArg (U X M G W r) (Fin.ext (by simp only []; omega))

theorem Rdt_at (r : Fin 18432) (c : Fin 256) : Rdt X M G W (ix2 r c)
    = if h : c.val < 8 then U X M G W r ⟨1792 + c.val, by omega⟩
      else if h : c.val - 8 < 120 then 0
      else if h : c.val - 8 - 120 < 8 then U X M G W r ⟨1800 + (c.val - 8 - 120), by omega⟩ else 0 := by
  pointwise [Rdt, r_v154]
  simp only [v148_at]

end Cert.InprojRefIdeal.Part

end
-- ==== Proof.InprojRun.lean ====
/-
  The input projection, the reference's run: the arrays named in it are the functions of the arguments that `InprojRef`
  gives entry by entry.
-/
module

public import proofs.«01_k».proof.Proof.InprojRef
public import proofs.«01_k».proof.Proof.Gen.InprojRefIdeal.Run

@[expose] public section

set_option maxRecDepth 16384

noncomputable section

open Idealize.ShloMosaic Idealize.ShloMosaic.TcCoe Idealize.SL.Sem
open Idealize.ShloMosaic.StableHlo

namespace Cert.InprojRefIdeal.Part

open Cert.InprojRefIdeal Cert.InprojRefIdeal.Gen Cert.InprojRefIdeal.Value

variable (m : (ℓ : Loc nD τ sig) → Buf (Elt Ideal) ℓ)

theorem res_v141 (c : Dev nD) : res_main_v141 (launchContents m c) = r_v141 (m ((c.tc : Thread nD τ).loc main_arg0)) (m ((c.tc : Thread nD τ).loc main_arg1))
    (m ((c.tc : Thread nD τ).loc main_arg2)) (m ((c.tc : Thread nD τ).loc main_arg3)) := rfl

theorem res_v148 (c : Dev nD) : res_main_v148 (launchContents m c) = r_v148 (m ((c.tc : Thread nD τ).loc main_arg0)) (m ((c.tc : Thread nD τ).loc main_arg1))
    (m ((c.tc : Thread nD τ).loc main_arg2)) (m ((c.tc : Thread nD τ).loc main_arg3)) := rfl

theorem res_v154 (c : Dev nD) : res_main_v154 (launchContents m c) = r_v154 := rfl

end Cert.InprojRefIdeal.Part

end
-- ==== Proof.WattnFinite.lean ====
/-
  Window attention, the precondition: the sink and the rows of queries and keys hold numbers, not infinities.
-/
module

public import proofs.«01_k».proof.Proof.Softmax
public import proofs.«01_k».proof.Proof.Gen.Pre_finite
public import Idealize.ShloMosaic.Lib.ReduceAll

@[expose] public section

noncomputable section

namespace Cert.Finite

open Idealize.ShloMosaic Cert.Pre_finite Cert.Pre_finite.Gen

/-- An absolute value below ⊤ is that of a number. -/
theorem number (x : EReal) (h : FloatOps.cmpf (F := Ideal) (φ := .f32) .olt (FloatOps.absf (F := Ideal) (φ := .f32) x) (Ideal.ofBits .f32 0x7F800000#32) = 1#1) :
    x ≠ ⊤ ∧ x ≠ ⊥ := by
  have ht : Ideal.ofBits .f32 0x7F800000#32 = (⊤ : EReal) := by simp [Ideal.ofBits, Ideal.ieee]
  rw [ht] at h
  constructor <;> rintro rfl <;> simp [FloatOps.cmpf, FloatOps.absf, Ideal.cmp] at h

/-- Both halves of the precondition. -/
theorem numbers (A : FVec Ideal S4 .f32) (X : FVec Ideal S18432x384 .bf16) (Y : FVec Ideal S18432x128 .bf16)
    (h : Cert.Pre_finite.fn (F := Ideal) A X Y = fun _ => 1#1) :
    (∀ i, (A i : EReal) ≠ ⊤ ∧ (A i : EReal) ≠ ⊥) ∧ (∀ i, (X i : EReal) ≠ ⊤ ∧ (X i : EReal) ≠ ⊥) := by
  have h0 := congrFun h (fun a => a.elim0)
  dsimp only [Cert.Pre_finite.fn] at h0
  obtain ⟨h1, h2⟩ := IntOp.andi_eq_one.1 h0
  constructor
  · intro i
    have := Host.reduce_andi_all _ _ _ _ _ h1 i
    exact number _ this
  · intro i
    have := Host.reduce_andi_all _ _ _ _ _ h2 i
    exact number _ this

end Cert.Finite

end
-- ==== Proof.InprojFinite.lean ====
/-
  The input projection, the precondition: the four arguments hold numbers, not infinities. Then every modulated row is
  made of numbers, and the sign folded into a weight column may be taken out of its dot products.
-/
module

public import proofs.«01_k».proof.Proof.WattnFinite
public import proofs.«01_k».proof.Proof.InprojRef
public import proofs.«01_k».proof.Proof.Gen.Pre_finite_in

@[expose] public section

set_option maxRecDepth 16384

noncomputable section

namespace Cert.InprojFinite

open Idealize.ShloMosaic

/-- A number, not an infinity. -/
def Num (a : EReal) : Prop := a ≠ ⊤ ∧ a ≠ ⊥

theorem Num.real {a : EReal} (h : Num a) : ∃ r : ℝ, a = r := ⟨a.toReal, (EReal.coe_toReal h.1 h.2).symm⟩

theorem num_coe (r : ℝ) : Num (r : EReal) := ⟨EReal.coe_ne_top r, EReal.coe_ne_bot r⟩

theorem Num.add {a b : EReal} (ha : Num a) (hb : Num b) : Num (a + b) := by
  obtain ⟨r, rfl⟩ := ha.real
  obtain ⟨s, rfl⟩ := hb.real
  rw [← EReal.coe_add]
  exact num_coe _

theorem Num.mul {a b : EReal} (ha : Num a) (hb : Num b) : Num (a * b) := by
  obtain ⟨r, rfl⟩ := ha.real
  obtain ⟨s, rfl⟩ := hb.real
  rw [← EReal.coe_mul]
  exact num_coe _

/-- A sign may be taken out of a sum of products of numbers. -/
theorem neg_dot {ι : Type} (s : Finset ι) {a b : ι → EReal} (ha : ∀ i, Num (a i)) (hb : ∀ i, Num (b i)) :
    ∑ i ∈ s, a i * (b i * (-1)) = -(∑ i ∈ s, a i * b i) := by
  classical
  induction s using Finset.induction_on with
  | empty => simp
  | insert k t hk ih =>
    have h := (ha k).mul (hb k)
    rw [Finset.sum_insert hk, Finset.sum_insert hk, ih, EReal.neg_add (Or.inl h.2) (Or.inl h.1), sub_eq_add_neg, mul_neg, mul_one, mul_neg]

theorem bits_width : Ideal.ofBits .f32 1149239296#32 = ((1024 : ℝ) : EReal) := by
  simp [Ideal.ofBits, Ideal.ieee]
  rw [← EReal.coe_mul]
  congr 1
  norm_num

theorem bits_eps : ∃ e : ℝ, 0 < e ∧ Ideal.ofBits .f32 897988541#32 = (e : EReal) := by
  simp [Ideal.ofBits, Ideal.ieee]
  exact ⟨_, by positivity, (EReal.coe_mul 8796093 ((2 ^ 43 : ℝ)⁻¹)).symm⟩

/-- The reciprocal root of a mean of squares plus the guard is a number. -/
theorem rsqrt_num {ι : Type} [Fintype ι] {x : ι → EReal} (hx : ∀ i, Num (x i)) :
    Num (Ideal.rsqrt (Ideal.div (∑ i, x i * x i) (Ideal.ofBits .f32 1149239296#32) + Ideal.ofBits .f32 897988541#32)) := by
  obtain ⟨s, hs⟩ := Num.real (Cert.Softmax.dot_number hx hx)
  have h0 : 0 ≤ s := by
    rw [← EReal.coe_nonneg, ← hs]
    refine Finset.sum_nonneg fun i _ => ?_
    obtain ⟨r, hr⟩ := (hx i).real
    rw [hr, ← EReal.coe_mul]
    exact EReal.coe_nonneg.2 (mul_self_nonneg r)
  obtain ⟨e, he, hb⟩ := bits_eps
  have hd : Ideal.div (s : EReal) ((1024 : ℝ) : EReal) = ((s * (1024 : ℝ)⁻¹ : ℝ) : EReal) := by
    unfold Ideal.div
    rw [if_neg (by norm_num), EReal.coe_mul, EReal.coe_inv]
  have hp : 0 < s * (1024 : ℝ)⁻¹ + e := by positivity
  rw [hs, bits_width, hb, hd, ← EReal.coe_add]
  show Num (if s * (1024 : ℝ)⁻¹ + e < 0 then ⊥ else if s * (1024 : ℝ)⁻¹ + e = 0 then ⊤ else ((Real.sqrt (s * (1024 : ℝ)⁻¹ + e))⁻¹ : ℝ))
  rw [if_neg (not_lt.2 hp.le), if_neg hp.ne']
  exact num_coe _

open Cert.InprojRefIdeal Cert.InprojRefIdeal.Part in
/-- Every entry of a modulated row is a number. -/
theorem hid_num {X : FVec Ideal S18432x1024 .f32} {M : FVec Ideal S16x6x1024 .f32} {G : FVec Ideal S1024 .f32}
    (hX : ∀ i, Num (X i)) (hM : ∀ i, Num (M i)) (hG : ∀ i, Num (G i)) (r : Fin 18432) (p : Fin 16) (k : Fin 1024) :
    Num (hid X M G r p k) :=
  ((((hX _).mul (rsqrt_num fun x => hX (ix2 r x))).mul (hG _)).mul (Num.add (num_coe 1) (hM _))).add (hM _)

open Cert.Pre_finite_in Cert.Pre_finite_in.Gen in
/-- What the precondition says of each argument. -/
theorem numbers (X : FVec Ideal S18432x1024 .f32) (M : FVec Ideal S16x6x1024 .f32) (G : FVec Ideal S1024 .f32)
    (W : FVec Ideal S1024x2576 .f32) (h : Cert.Pre_finite_in.fn (F := Ideal) X M G W = fun _ => 1#1) :
    (∀ i, Num (X i)) ∧ (∀ i, Num (M i)) ∧ (∀ i, Num (G i)) ∧ (∀ i, Num (W i)) := by
  have h0 := congrFun h (fun a => a.elim0)
  dsimp only [Cert.Pre_finite_in.fn, Cert.Pre_finite_in.fn_part1] at h0
  obtain ⟨h1, h2⟩ := IntOp.andi_eq_one.1 h0
  obtain ⟨h3, h4⟩ := IntOp.andi_eq_one.1 h1
  obtain ⟨h5, h6⟩ := IntOp.andi_eq_one.1 h3
  exact ⟨fun i => Cert.Finite.number _ (Host.reduce_andi_all _ _ _ _ _ h5 i), fun i => Cert.Finite.number _ (Host.reduce_andi_all _ _ _ _ _ h6 i),
    fun i => Cert.Finite.number _ (Host.reduce_andi_all _ _ _ _ _ h4 i), fun i => Cert.Finite.number _ (Host.reduce_andi_all _ _ _ _ _ h2 i)⟩

end Cert.InprojFinite

end
-- ==== Proof.InprojBlock.lean ====
/-
  The input projection, one block of the kernel: where each grid point reads and writes, the modulated rows it forms,
  and each of its six stores as dot products of those rows with columns of the prepared weights.
-/
module

public import proofs.«01_k».proof.Proof.InprojFinite

@[expose] public section

set_option maxRecDepth 16384

noncomputable section

open Idealize.ShloMosaic Idealize.ShloMosaic.TcCoe Idealize.SL.Sem
open Idealize.ShloMosaic.Pipeline (Dat)

namespace Cert.InprojIdeal.KVal

open Cert.InprojIdeal Cert.InprojIdeal.Gen
open Cert.InprojRefIdeal.Part (hid mr U)

/-- A modulated row, from the blocks of a grid point. -/
theorem pay7_at (x : FVec Ideal S512x1024 .f32) (mo : FVec Ideal S1x6x1024 .f32) (g : FVec Ideal S1x1024 .f32) (a : Fin 512) (k : Fin 1024) :
    k0_pay7 (F := Ideal) x mo g (ix2 a k)
      = x (ix2 a k) * Ideal.rsqrt (Ideal.div (∑ j : Fin 1024, x (ix2 a j) * x (ix2 a j)) (Ideal.ofBits .f32 1149239296#32) + Ideal.ofBits .f32 897988541#32)
        * g (ix2 0 k) * (1 + mo (ix3 0 1 k)) + mo (ix3 0 0 k) := by
  pointwise [k0_pay7]

theorem pay1_at (x : FVec Ideal S512x1024 .f32) (mo : FVec Ideal S1x6x1024 .f32) (g : FVec Ideal S1x1024 .f32)
    (w v : FVec Ideal S1024x384 .bf16) (p q : FVec Ideal S512x384 .f32) (a : Fin 512) (b : Fin 384) :
    k0_pay1 (F := Ideal) (k0_pay8 x mo g w p) (k0_pay9 x mo g v q) (ix2 a b)
      = (∑ k : Fin 1024, (show FVec Ideal S512x1024 .bf16 from k0_pay7 x mo g) (ix2 a k) * w (ix2 k b)) * p (ix2 a b)
        + (∑ k : Fin 1024, (show FVec Ideal S512x1024 .bf16 from k0_pay7 x mo g) (ix2 a k) * v (ix2 k b)) * q (ix2 a b) := by
  pointwise [k0_pay1, k0_pay8, k0_pay9]

theorem pay2_at (h : FVec Ideal S512x1024 .bf16) (w : FVec Ideal S1024x128 .bf16) (a : Fin 512) (b : Fin 128) :
    k0_pay2 (F := Ideal) h w (ix2 a b) = ∑ k : Fin 1024, h (ix2 a k) * w (ix2 k b) := by
  pointwise [k0_pay2]

theorem pay3_at (h : FVec Ideal S512x1024 .bf16) (w : FVec Ideal S1024x512 .bf16) (a : Fin 512) (b : Fin 512) :
    k0_pay3 (F := Ideal) h w (ix2 a b) = ∑ k : Fin 1024, h (ix2 a k) * w (ix2 k b) := by
  pointwise [k0_pay3]

theorem pay4_at (h : FVec Ideal S512x1024 .bf16) (w : FVec Ideal S1024x768 .bf16) (a : Fin 512) (b : Fin 768) :
    k0_pay4 (F := Ideal) h w (ix2 a b) = ∑ k : Fin 1024, h (ix2 a k) * w (ix2 k b) := by
  pointwise [k0_pay4]

theorem pay5_at (h : FVec Ideal S512x1024 .bf16) (w : FVec Ideal S1024x768 .bf16) (a : Fin 512) (b : Fin 768) :
    k0_pay5 (F := Ideal) h w (ix2 a b) = ∑ k : Fin 1024, h (ix2 a k) * w (ix2 k b) := by
  pointwise [k0_pay5]

theorem pay6_at (h : FVec Ideal S512x1024 .bf16) (w : FVec Ideal S1024x256 .bf16) (a : Fin 512) (b : Fin 256) :
    k0_pay6 (F := Ideal) h w (ix2 a b) = ∑ k : Fin 1024, h (ix2 a k) * w (ix2 k b) := by
  pointwise [k0_pay6]

variable (m : (ℓ : Loc nD τ sig) → Buf (Elt Ideal) ℓ)

/-- Where point `t` reads and writes: row block `t`; the modulation row of its batch entry (row 8 for the context); the block of
    the tables its positions are in (the last for the context); the weights whole. -/
theorem idx : ∀ t : Fin cfg0.N,
    win0_0.index t = ![t.val, 0] ∧ win0_1.index t = ![if t.val < 32 then t.val / 4 else 8, 0, 0] ∧ win0_2.index t = ![0, 0]
      ∧ win0_3.index t = ![0, 0] ∧ win0_4.index t = ![if t.val < 32 then t.val % 4 else 4, 0]
      ∧ win0_5.index t = ![if t.val < 32 then t.val % 4 else 4, 0]
      ∧ win0_6.index t = ![t.val, 0] ∧ win0_7.index t = ![t.val, 0] ∧ win0_8.index t = ![t.val, 0] ∧ win0_9.index t = ![t.val, 0]
      ∧ win0_10.index t = ![t.val, 0] ∧ win0_11.index t = ![t.val, 0] :=
  (by decide +kernel : ∀ t : Fin grid0.N, _)

theorem N_lt (t : Fin cfg0.N) : t.val < 36 := lt_of_lt_of_eq t.isLt N_0

/-- Row `a` of point `t`'s block, as a row of the whole array. -/
def row (t : Fin cfg0.N) (a : Fin 512) : Fin 18432 :=
  ⟨512 * t.val + a.val, by have h := N_lt t; have := a.isLt; omega⟩

/-- The modulation row of point `t`'s block. -/
def mrow (t : Fin cfg0.N) : Fin 16 :=
  ⟨if t.val < 32 then t.val / 4 else 8, by have h := N_lt t; by_cases h1 : t.val < 32 <;> simp only [h1, if_true, if_false] <;> omega⟩

/-- The row of the tables that row `a` of point `t`'s block meets. -/
def tab (t : Fin cfg0.N) (a : Fin 512) : Fin 2560 :=
  ⟨512 * (if t.val < 32 then t.val % 4 else 4) + a.val, by
    have := a.isLt
    by_cases h1 : t.val < 32 <;> simp only [h1, if_true, if_false] <;> omega⟩

theorem mrow_eq (t : Fin cfg0.N) (a : Fin 512) : mrow t = mr (row t a) := by
  have h := N_lt t
  have ha := a.isLt
  refine Fin.ext ?_
  show (if t.val < 32 then t.val / 4 else 8) = if 512 * t.val + a.val < 16384 then (512 * t.val + a.val) / 2048 else 8
  by_cases h1 : t.val < 32
  · rw [if_pos h1, if_pos (show 512 * t.val + a.val < 16384 by omega)]; omega
  · rw [if_neg h1, if_neg (show ¬ 512 * t.val + a.val < 16384 by omega)]

theorem tab_lat (t : Fin cfg0.N) (a : Fin 512) (h : (row t a).val < 16384) : (tab t a).val = (row t a).val % 2048 := by
  have ha := a.isLt
  simp only [row] at h
  simp only [tab, row, if_pos (show t.val < 32 by omega)]; omega

theorem tab_ctx (t : Fin cfg0.N) (a : Fin 512) (h : ¬ (row t a).val < 16384) : ¬ (tab t a).val < 2048 := by
  have ha := a.isLt
  simp only [row] at h
  simp only [tab, if_neg (show ¬ t.val < 32 by omega)]; omega

theorem rd0 (c : Dev nD) (t : Fin cfg0.N) (a : Fin 512) (b : Fin 1024) :
    (show FVec Ideal S512x1024 .f32 from iblk m c 0 t) (ix2 a b) = (show FVec Ideal S18432x1024 .f32 from m ((c : Thread nD τ).loc main_arg0)) (ix2 (row t a) b) := by
  blk_ext [iblk, V, idx t, row]

theorem rd1 (c : Dev nD) (t : Fin cfg0.N) (a : Fin 6) (b : Fin 1024) :
    (show FVec Ideal S1x6x1024 .f32 from iblk m c 1 t) (ix3 0 a b) = (show FVec Ideal S16x6x1024 .f32 from m ((c : Thread nD τ).loc main_arg1)) (ix3 (mrow t) a b) := by
  blk_ext [iblk, V, idx t, mrow]

theorem rd2' (c : Dev nD) (t : Fin cfg0.N) (b : Fin 1024) :
    (show FVec Ideal S1x1024 .f32 from iblk m c 2 t) (ix2 0 b) = (show FVec Ideal S1x1024 .f32 from V m c main_v48) (ix2 0 b) := by
  blk_ext [iblk, idx t]

theorem rd3 (c : Dev nD) (t : Fin cfg0.N) (a : Fin 1024) (b : Fin 3200) :
    (show FVec Ideal S1024x3200 .bf16 from iblk m c 3 t) (ix2 a b) = (show FVec Ideal S1024x3200 .bf16 from V m c main_v82) (ix2 a b) := by
  blk_ext [iblk, idx t]

theorem rd4 (c : Dev nD) (t : Fin cfg0.N) (a : Fin 512) (b : Fin 384) :
    (show FVec Ideal S512x384 .f32 from iblk m c 4 t) (ix2 a b) = (show FVec Ideal S2560x384 .f32 from V m c main_v45) (ix2 (tab t a) b) := by
  blk_ext [iblk, idx t, tab]

theorem rd5 (c : Dev nD) (t : Fin cfg0.N) (a : Fin 512) (b : Fin 384) :
    (show FVec Ideal S512x384 .f32 from iblk m c 5 t) (ix2 a b) = (show FVec Ideal S2560x384 .f32 from V m c main_v47) (ix2 (tab t a) b) := by
  blk_ext [iblk, idx t, tab]

theorem wr6 (t : Fin cfg0.N) (a : Fin 512) (b : Fin 384) (G : FVec Ideal S18432x384 .bf16) :
    G (((View.whole main_v83_0).slice (win0_6.rect t)).emb (ix2 a b)) = G (ix2 (row t a) b) := by
  blk_ext [idx t, row]

theorem wr7 (t : Fin cfg0.N) (a : Fin 512) (b : Fin 128) (G : FVec Ideal S18432x128 .bf16) :
    G (((View.whole main_v83_1).slice (win0_7.rect t)).emb (ix2 a b)) = G (ix2 (row t a) b) := by
  blk_ext [idx t, row]

theorem wr8 (t : Fin cfg0.N) (a : Fin 512) (b : Fin 512) (G : FVec Ideal S18432x512 .f32) :
    G (((View.whole main_v83_2).slice (win0_8.rect t)).emb (ix2 a b)) = G (ix2 (row t a) b) := by
  blk_ext [idx t, row]

theorem wr9 (t : Fin cfg0.N) (a : Fin 512) (b : Fin 768) (G : FVec Ideal S18432x768 .f32) :
    G (((View.whole main_v83_3).slice (win0_9.rect t)).emb (ix2 a b)) = G (ix2 (row t a) b) := by
  blk_ext [idx t, row]

theorem wr10 (t : Fin cfg0.N) (a : Fin 512) (b : Fin 768) (G : FVec Ideal S18432x768 .bf16) :
    G (((View.whole main_v83_4).slice (win0_10.rect t)).emb (ix2 a b)) = G (ix2 (row t a) b) := by
  blk_ext [idx t, row]

theorem wr11 (t : Fin cfg0.N) (a : Fin 512) (b : Fin 256) (G : FVec Ideal S18432x256 .f32) :
    G (((View.whole main_v83_5).slice (win0_11.rect t)).emb (ix2 a b)) = G (ix2 (row t a) b) := by
  blk_ext [idx t, row]

/-- A part of a two-dimensional block, read at an index. -/
theorem ld_at {n0 n1 k0 k1 : ℕ} (X : Vec Ideal ⟨2, ![n0, n1]⟩ .bf16) (o : Fin 2 → ℕ)
    (h : ∀ a, o a + (⟨2, ![k0, k1]⟩ : Shape).size a ≤ (⟨2, ![n0, n1]⟩ : Shape).size a) (a : Fin k0) (b : Fin k1) :
    View.ld (Val := Elt Ideal) (e' := .bf16) X (Rect.unit (s := ⟨2, ![n0, n1]⟩) o (⟨2, ![k0, k1]⟩ : Shape).size h) (ix2 a b) =
      X (ix2 ⟨o 0 + a.val, lt_of_lt_of_le (Nat.add_lt_add_left a.isLt _) (h 0)⟩ ⟨o 1 + b.val, lt_of_lt_of_le (Nat.add_lt_add_left b.isLt _) (h 1)⟩) :=
  View.ld_unit_apply_of _ _ _ _ _ _ fun x => by fin_cases x <;> rfl

/-- A group of columns of the weights, as point `t` reads them. -/
theorem rdw (c : Dev nD) (t : Fin cfg0.N) (o n : ℕ) (h : ∀ a, (![0, o] : Fin 2 → ℕ) a + (⟨2, ![1024, n]⟩ : Shape).size a ≤ S1024x3200.size a)
    (k : Fin 1024) (b : Fin n) (hj : o + b.val < 3200) :
    View.ld (Val := Elt Ideal) (e' := .bf16) (iblk m c 3 t : Vec Ideal S1024x3200 .bf16) (Rect.unit (s := S1024x3200) ![0, o] (⟨2, ![1024, n]⟩ : Shape).size h) (ix2 k b)
      = (show FVec Ideal S1024x3200 .bf16 from V m c main_v82) (ix2 k ⟨o + b.val, hj⟩) := by
  refine (ld_at _ _ _ _ _).trans (Eq.trans ?_ (rd3 m c t _ _))
  exact congrArg (fun x : Fin 1024 => (show FVec Ideal S1024x3200 .bf16 from iblk m c 3 t) (ix2 x ⟨o + b.val, hj⟩)) (Fin.ext (Nat.zero_add _))

end Cert.InprojIdeal.KVal

end
-- ==== Proof.InprojHost.lean ====
/-
  The input projection, the kernel's side: the arrays its host code prepares (under the numbers of the printed
  program) and their entries: the weight columns regrouped, with the rotated partner columns between them, and the
  tables of scaled cosines and sines.
-/
module

public import proofs.«01_k».proof.Proof.InprojRef

@[expose] public section

set_option maxRecDepth 16384

noncomputable section

open Idealize.ShloMosaic Idealize.ShloMosaic.TcCoe Idealize.SL.Sem
open Idealize.ShloMosaic.Pipeline (Dat)

namespace Cert.InprojIdeal.Tab

open Cert.InprojIdeal Cert.InprojIdeal.Gen
open Cert.InprojRefIdeal.Part (ang r_v77 r_v116)

/-- A gather of whole columns: column `j` of the result is the operand's column named by the `j`-th index, clamped to the last. -/
theorem cols_apply {α : Type} {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (k : Fin R) (j : Fin C) :
    Host.gather (⟨[0], [1], [], [], [1], 1, ![R, 1], wf⟩ : GatherDims ⟨2, ![R, N]⟩ ⟨2, ![C, 1]⟩ ⟨2, ![R, C]⟩) x idx (ix2 k j)
      = x (ix2 k ⟨min (idx (ix2 j 0)).toInt.toNat (N - 1), by omega⟩) := by
  unfold Host.gather
  congr 1
  funext a
  refine Fin.ext ?_
  have h01 : a = 0 ∨ a = 1 := by
    match a with
    | ⟨0, _⟩ => exact Or.inl rfl
    | ⟨1, _⟩ => exact Or.inr rfl
  show GatherDims.start _ (ix2 k j) idx a + GatherDims.batchCoord _ (ix2 k j) a + GatherDims.offCoord _ (ix2 k j) a = _
  rcases h01 with rfl | rfl
  · rw [GatherDims.batchCoord_eq_zero _ _ _ List.not_mem_nil]
    unfold GatherDims.start
    rw [dif_neg (show ¬ (0 : Fin 2) ∈ [(1 : Fin 2)] by decide)]
    simp only [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ [(1 : Fin 2)] by decide)]
    have hsi : GatherDims.siIdx (⟨[0], [1], [], [], [1], 1, ![R, 1], wf⟩ : GatherDims ⟨2, ![R, N]⟩ ⟨2, ![C, 1]⟩ ⟨2, ![R, C]⟩) (ix2 k j)
        ⟨List.idxOf (1 : Fin 2) [(1 : Fin 2)], List.idxOf_lt_length_iff.2 (List.mem_singleton.mpr rfl)⟩ = ix2 j 0 := by
      funext b; refine Fin.ext ?_
      match b with
      | ⟨0, _⟩ => rfl
      | ⟨1, _⟩ => rfl
    rw [hsi]
    rfl

def h_c : IVec S256 32 :=
  (fun i => lit0 (S256.rowMajor i))

def h_c_0 : IVec S256 1 :=
  (constantI S256 1 0#1)

def h_cst : FVec Ideal S256 .f32 :=
  (fun i => FloatOps.ofBits .f32 (lit1 (S256.rowMajor i)))

def h_c_1 : IVec S128 32 :=
  (fun i => lit2 (S128.rowMajor i))

def h_c_2 : IVec S128 1 :=
  (constantI S128 1 0#1)

def h_cst_3 : FVec Ideal S128 .f32 :=
  (fun i => FloatOps.ofBits .f32 (lit3 (S128.rowMajor i)))

def h_v26 (A : FVec Ideal S2048x16 .f32) (B : FVec Ideal S2048x16 .f32) : FVec Ideal S2048x64 .f32 :=
  concatenate S2048x64 1 [⟨S2048x16, A⟩, ⟨S2048x16, A⟩, ⟨S2048x16, B⟩, ⟨S2048x16, B⟩] concatenates_S2048x16_S2048x16_S2048x16_S2048x16_S2048x64_d1

def h_v27 (A : FVec Ideal S2048x16 .f32) (B : FVec Ideal S2048x16 .f32) : FVec Ideal S2048x64 .f32 :=
  Host.cos (h_v26 A B)

def h_v28 (A : FVec Ideal S2048x16 .f32) (B : FVec Ideal S2048x16 .f32) : FVec Ideal S2048x64 .f32 :=
  Host.sin (h_v26 A B)

def h_cst_11 : FVec Ideal S_ .f32 :=
  (constant S_ .f32 0x3E000000#32)

def h_v29 : FVec Ideal S256 .f32 :=
  broadcastInDim S256 ![] bcast_S_S256 (h_cst_11)

def h_cst_12 : FVec Ideal S_ .f32 :=
  (constant S_ .f32 0x3F800000#32)

def h_v30 : FVec Ideal S128 .f32 :=
  broadcastInDim S128 ![] bcast_S_S128 (h_cst_12)

def h_v31 : FVec Ideal S384 .f32 :=
  concatenate S384 0 [⟨S256, (h_v29)⟩, ⟨S128, (h_v30)⟩] concatenates_S256_S128_S384_d0

def h_v32 (A : FVec Ideal S2048x16 .f32) (B : FVec Ideal S2048x16 .f32) : FVec Ideal S1x2048x1x64 .f32 :=
  shapeCast S1x2048x1x64 (h_v27 A B) shapeCasts_S2048x64_S1x2048x1x64

def h_v33 (A : FVec Ideal S2048x16 .f32) (B : FVec Ideal S2048x16 .f32) : FVec Ideal S1x2048x6x64 .f32 :=
  broadcastInDim S1x2048x6x64 ![0, 1, 2, 3] bcast_S1x2048x1x64_S1x2048x6x64_0_1_2_3 (h_v32 A B)

def h_v34 (A : FVec Ideal S2048x16 .f32) (B : FVec Ideal S2048x16 .f32) : FVec Ideal S2048x384 .f32 :=
  shapeCast S2048x384 (h_v33 A B) shapeCasts_S1x2048x6x64_S2048x384

def h_v35 : FVec Ideal S1x384 .f32 :=
  broadcastInDim S1x384 ![1] bcast_S384_S1x384_1 (h_v31)

def h_v36 : FVec Ideal S2048x384 .f32 :=
  broadcastInDim S2048x384 ![0, 1] bcast_S1x384_S2048x384_0_1 (h_v35)

def h_v37 (A : FVec Ideal S2048x16 .f32) (B : FVec Ideal S2048x16 .f32) : FVec Ideal S2048x384 .f32 :=
  mulf (h_v34 A B) (h_v36)

def h_v38 (A : FVec Ideal S2048x16 .f32) (B : FVec Ideal S2048x16 .f32) : FVec Ideal S1x2048x1x64 .f32 :=
  shapeCast S1x2048x1x64 (h_v28 A B) shapeCasts_S2048x64_S1x2048x1x64

def h_v39 (A : FVec Ideal S2048x16 .f32) (B : FVec Ideal S2048x16 .f32) : FVec Ideal S1x2048x6x64 .f32 :=
  broadcastInDim S1x2048x6x64 ![0, 1, 2, 3] bcast_S1x2048x1x64_S1x2048x6x64_0_1_2_3 (h_v38 A B)

def h_v40 (A : FVec Ideal S2048x16 .f32) (B : FVec Ideal S2048x16 .f32) : FVec Ideal S2048x384 .f32 :=
  shapeCast S2048x384 (h_v39 A B) shapeCasts_S1x2048x6x64_S2048x384

def h_v41 : FVec Ideal S1x384 .f32 :=
  broadcastInDim S1x384 ![1] bcast_S384_S1x384_1 (h_v31)

def h_v42 : FVec Ideal S2048x384 .f32 :=
  broadcastInDim S2048x384 ![0, 1] bcast_S1x384_S2048x384_0_1 (h_v41)

def h_v43 (A : FVec Ideal S2048x16 .f32) (B : FVec Ideal S2048x16 .f32) : FVec Ideal S2048x384 .f32 :=
  mulf (h_v40 A B) (h_v42)

def h_v44 : FVec Ideal S512x384 .f32 :=
  broadcastInDim S512x384 ![1] bcast_S384_S512x384_1 (h_v31)

def h_v45 (A : FVec Ideal S2048x16 .f32) (B : FVec Ideal S2048x16 .f32) : FVec Ideal S2560x384 .f32 :=
  concatenate S2560x384 0 [⟨S2048x384, (h_v37 A B)⟩, ⟨S512x384, (h_v44)⟩] concatenates_S2048x384_S512x384_S2560x384_d0

def h_cst_13 : FVec Ideal S_ .f32 :=
  (constant S_ .f32 0x00000000#32)

def h_v46 : FVec Ideal S512x384 .f32 :=
  broadcastInDim S512x384 ![] bcast_S_S512x384 (h_cst_13)

def h_v47 (A : FVec Ideal S2048x16 .f32) (B : FVec Ideal S2048x16 .f32) : FVec Ideal S2560x384 .f32 :=
  concatenate S2560x384 0 [⟨S2048x384, (h_v43 A B)⟩, ⟨S512x384, (h_v46)⟩] concatenates_S2048x384_S512x384_S2560x384_d0

def h_v49 (W : FVec Ideal S1024x2576 .f32) : FVec Ideal S1024x256 .f32 :=
  extractStridedSlice S1024x256 ![0, 0] W slices_S1024x2576_S1024x256_0_0

def h_v50 (W : FVec Ideal S1024x2576 .f32) : FVec Ideal S1024x128 .f32 :=
  extractStridedSlice S1024x128 ![0, 256] W slices_S1024x2576_S1024x128_0_256

def h_v51 (W : FVec Ideal S1024x2576 .f32) : FVec Ideal S1024x128 .f32 :=
  extractStridedSlice S1024x128 ![0, 384] W slices_S1024x2576_S1024x128_0_384

def h_v52 (W : FVec Ideal S1024x2576 .f32) : FVec Ideal S1024x512 .f32 :=
  extractStridedSlice S1024x512 ![0, 512] W slices_S1024x2576_S1024x512_0_512

def h_v53 (W : FVec Ideal S1024x2576 .f32) : FVec Ideal S1024x768 .f32 :=
  extractStridedSlice S1024x768 ![0, 1024] W slices_S1024x2576_S1024x768_0_1024

def h_v54 (W : FVec Ideal S1024x2576 .f32) : FVec Ideal S1024x16 .f32 :=
  extractStridedSlice S1024x16 ![0, 1792] W slices_S1024x2576_S1024x16_0_1792

def h_v55 (W : FVec Ideal S1024x2576 .f32) : FVec Ideal S1024x768 .f32 :=
  extractStridedSlice S1024x768 ![0, 1808] W slices_S1024x2576_S1024x768_0_1808

def h_cst_14 : FVec Ideal S_ .f32 :=
  (constant S_ .f32 0x3E000000#32)

def h_v56 : FVec Ideal S256 .f32 :=
  broadcastInDim S256 ![] bcast_S_S256 (h_cst_14)

def h_cst_15 : FVec Ideal S_ .f32 :=
  (constant S_ .f32 0x3F800000#32)

def h_v57 : FVec Ideal S512 .f32 :=
  broadcastInDim S512 ![] bcast_S_S512 (h_cst_15)

def h_v58 : FVec Ideal S768 .f32 :=
  concatenate S768 0 [⟨S256, (h_v56)⟩, ⟨S512, (h_v57)⟩] concatenates_S256_S512_S768_d0

def h_cst_16 : FVec Ideal S_ .f32 :=
  (constant S_ .f32 0x00000000#32)

def h_v59 : FVec Ideal S1024x120 .f32 :=
  broadcastInDim S1024x120 ![] bcast_S_S1024x120 (h_cst_16)

def h_c_17 : IVec S_ 32 :=
  (constantI S_ 32 256#32)

def h_v60 : IVec S256 32 :=
  broadcastInDim S256 ![] bcast_S_S256 (h_c_17)

def h_v61 : IVec S256 32 :=
  addi (h_c) (h_v60)

def h_v62 : IVec S256 32 :=
  select (h_c_0) (h_v61) (h_c)

def h_v63 : IVec S256x1 32 :=
  broadcastInDim S256x1 ![0] bcast_S256_S256x1_0 (h_v62)

def h_v64 (W : FVec Ideal S1024x2576 .f32) : FVec Ideal S1024x256 .f32 :=
  Host.gather gather_S1024x256_S256x1_S1024x256_0_1_n_n_1_1_10241 (h_v49 W) (h_v63)

def h_v65 : FVec Ideal S1x256 .f32 :=
  broadcastInDim S1x256 ![1] bcast_S256_S1x256_1 (h_cst)

def h_v66 : FVec Ideal S1024x256 .f32 :=
  broadcastInDim S1024x256 ![0, 1] bcast_S1x256_S1024x256_0_1 (h_v65)

def h_v67 (W : FVec Ideal S1024x2576 .f32) : FVec Ideal S1024x256 .f32 :=
  mulf (h_v64 W) (h_v66)

def h_c_18 : IVec S_ 32 :=
  (constantI S_ 32 128#32)

def h_v68 : IVec S128 32 :=
  broadcastInDim S128 ![] bcast_S_S128 (h_c_18)

def h_v69 : IVec S128 32 :=
  addi (h_c_1) (h_v68)

def h_v70 : IVec S128 32 :=
  select (h_c_2) (h_v69) (h_c_1)

def h_v71 : IVec S128x1 32 :=
  broadcastInDim S128x1 ![0] bcast_S128_S128x1_0 (h_v70)

def h_v72 (W : FVec Ideal S1024x2576 .f32) : FVec Ideal S1024x128 .f32 :=
  Host.gather gather_S1024x128_S128x1_S1024x128_0_1_n_n_1_1_10241 (h_v50 W) (h_v71)

def h_v73 : FVec Ideal S1x128 .f32 :=
  broadcastInDim S1x128 ![1] bcast_S128_S1x128_1 (h_cst_3)

def h_v74 : FVec Ideal S1024x128 .f32 :=
  broadcastInDim S1024x128 ![0, 1] bcast_S1x128_S1024x128_0_1 (h_v73)

def h_v75 (W : FVec Ideal S1024x2576 .f32) : FVec Ideal S1024x128 .f32 :=
  mulf (h_v72 W) (h_v74)

def h_v76 : FVec Ideal S1x768 .f32 :=
  broadcastInDim S1x768 ![1] bcast_S768_S1x768_1 (h_v58)

def h_v77 : FVec Ideal S1024x768 .f32 :=
  broadcastInDim S1024x768 ![0, 1] bcast_S1x768_S1024x768_0_1 (h_v76)

def h_v78 (W : FVec Ideal S1024x2576 .f32) : FVec Ideal S1024x768 .f32 :=
  mulf (h_v55 W) (h_v77)

def h_v79 (W : FVec Ideal S1024x2576 .f32) : FVec Ideal S1024x8 .f32 :=
  extractStridedSlice S1024x8 ![0, 0] (h_v54 W) slices_S1024x16_S1024x8_0_0

def h_v80 (W : FVec Ideal S1024x2576 .f32) : FVec Ideal S1024x8 .f32 :=
  extractStridedSlice S1024x8 ![0, 8] (h_v54 W) slices_S1024x16_S1024x8_0_8

def h_v81 (W : FVec Ideal S1024x2576 .f32) : FVec Ideal S1024x3200 .f32 :=
  concatenate S1024x3200 1 [⟨S1024x256, (h_v49 W)⟩, ⟨S1024x128, (h_v50 W)⟩, ⟨S1024x256, (h_v67 W)⟩, ⟨S1024x128, (h_v75 W)⟩, ⟨S1024x128, (h_v51 W)⟩, ⟨S1024x512, (h_v52 W)⟩, ⟨S1024x768, (h_v53 W)⟩, ⟨S1024x768, (h_v78 W)⟩, ⟨S1024x8, (h_v79 W)⟩, ⟨S1024x120, (h_v59)⟩, ⟨S1024x8, (h_v80 W)⟩, ⟨S1024x120, (h_v59)⟩] concatenates_S1024x256_S1024x128_S1024x256_S1024x128_S1024x128_S1024x512_S1024x768_S1024x768_S1024x8_S1024x120_S1024x8_S1024x120_S1024x3200_d1

def h_v82 (W : FVec Ideal S1024x2576 .f32) : FVec Ideal S1024x3200 .bf16 :=
  truncf .bf16 (h_v81 W) bitsLt_bf16_f32

/-- The partner column within a head's half: the one sixteen further or sixteen before. -/
def partner (c : Nat) : Nat := if c % 32 < 16 then c + 16 else c - 16

theorem lit0_val : ∀ c : Fin 256, min (lit0 (S256.rowMajor (ix1 c))).toInt.toNat 255 = partner c.val := by
  decide +kernel

theorem lit2_val : ∀ c : Fin 128, min (lit2 (S128.rowMajor (ix1 c))).toInt.toNat 127 = partner c.val := by
  decide +kernel

theorem lit1_val : ∀ c : Fin 256, lit1 (S256.rowMajor (ix1 c)) = if c.val % 32 < 16 then 0xBF800000#32 else 0x3F800000#32 := by
  decide +kernel

theorem lit3_val : ∀ c : Fin 128, lit3 (S128.rowMajor (ix1 c)) = if c.val % 32 < 16 then 0xBF800000#32 else 0x3F800000#32 := by
  decide +kernel

/-- The sign a partner column enters with. -/
def sgn (c : Nat) : EReal := if c % 32 < 16 then -1 else 1

theorem bits_neg_one : Ideal.ofBits .f32 0xBF800000#32 = (-1 : EReal) := by
  simp [Ideal.ofBits, Ideal.ieee]
  rw [← EReal.coe_mul, ← EReal.coe_one]
  congr 1
  norm_num

theorem bits_one : Ideal.ofBits .f32 0x3F800000#32 = (1 : EReal) := by
  simp [Ideal.ofBits, Ideal.ieee]
  rw [← EReal.coe_mul, ← EReal.coe_one]
  congr 1
  norm_num

theorem bits_eighth : Ideal.ofBits .f32 1040187392#32 = ((1 / 8 : ℝ) : EReal) := by
  simp [Ideal.ofBits, Ideal.ieee]
  rw [← EReal.coe_mul]
  congr 1
  norm_num

theorem sgn_bits (c : Nat) : Ideal.ofBits .f32 (if c % 32 < 16 then 0xBF800000#32 else 0x3F800000#32) = sgn c := by
  unfold sgn
  by_cases h : c % 32 < 16
  · rw [if_pos h, if_pos h, bits_neg_one]
  · rw [if_neg h, if_neg h, bits_one]

variable (W : FVec Ideal S1024x2576 .f32)

theorem v62_at (c : Fin 256) : h_v62 (ix1 c) = lit0 (S256.rowMajor (ix1 c)) := by
  pointwise [h_v62, h_c_0, h_v61, h_c]

theorem v70_at (c : Fin 128) : h_v70 (ix1 c) = lit2 (S128.rowMajor (ix1 c)) := by
  pointwise [h_v70, h_c_2, h_v69, h_c_1]

theorem v63_at (c : Fin 256) : h_v63 (ix2 c 0) = h_v62 (ix1 c) := by
  pointwise [h_v63]

theorem v71_at (c : Fin 128) : h_v71 (ix2 c 0) = h_v70 (ix1 c) := by
  pointwise [h_v71]

theorem v49_at (k : Fin 1024) (c : Fin 256) : h_v49 W (ix2 k c) = W (ix2 k ⟨c.val, by omega⟩) := by
  pointwise [h_v49]

theorem v50_at (k : Fin 1024) (c : Fin 128) : h_v50 W (ix2 k c) = W (ix2 k ⟨256 + c.val, by omega⟩) := by
  pointwise [h_v50]

theorem partner_lt (c : Fin 256) : partner c.val < 256 := by unfold partner; have := c.isLt; by_cases h : c.val % 32 < 16 <;> simp only [h, if_true, if_false] <;> omega
theorem partner_lt' (c : Fin 128) : partner c.val < 128 := by unfold partner; have := c.isLt; by_cases h : c.val % 32 < 16 <;> simp only [h, if_true, if_false] <;> omega

theorem v64_at (k : Fin 1024) (c : Fin 256) : h_v64 W (ix2 k c) = W (ix2 k ⟨partner c.val, lt_trans (partner_lt c) (by decide)⟩) := by
  refine (cols_apply (N := 256) (by decide) _ (h_v49 W) h_v63 k c).trans ?_
  rw [v49_at]
  refine congrArg (fun x : Fin 2576 => W (ix2 k x)) (Fin.ext ?_)
  show min (h_v63 (ix2 c 0)).toInt.toNat (256 - 1) = partner c.val
  rw [v63_at, v62_at]
  exact lit0_val c

theorem v72_at (k : Fin 1024) (c : Fin 128) : h_v72 W (ix2 k c) = W (ix2 k ⟨256 + partner c.val, by have := partner_lt' c; omega⟩) := by
  refine (cols_apply (N := 128) (by decide) _ (h_v50 W) h_v71 k c).trans ?_
  rw [v50_at]
  refine congrArg (fun x : Fin 2576 => W (ix2 k x)) (Fin.ext ?_)
  show 256 + min (h_v71 (ix2 c 0)).toInt.toNat (128 - 1) = 256 + partner c.val
  rw [v71_at, v70_at]
  exact congrArg (256 + ·) (lit2_val c)

theorem v67_at (k : Fin 1024) (c : Fin 256) : h_v67 W (ix2 k c) = W (ix2 k ⟨partner c.val, lt_trans (partner_lt c) (by decide)⟩) * sgn c.val := by
  have h : h_v67 W (ix2 k c) = h_v64 W (ix2 k c) * Ideal.ofBits .f32 (lit1 (S256.rowMajor (ix1 c))) := by
    pointwise [h_v67, h_v66, h_v65, h_cst]
  rw [h, v64_at, lit1_val, sgn_bits]

theorem v75_at (k : Fin 1024) (c : Fin 128) : h_v75 W (ix2 k c) = W (ix2 k ⟨256 + partner c.val, by have := partner_lt' c; omega⟩) * sgn c.val := by
  have h : h_v75 W (ix2 k c) = h_v72 W (ix2 k c) * Ideal.ofBits .f32 (lit3 (S128.rowMajor (ix1 c))) := by
    pointwise [h_v75, h_v74, h_v73, h_cst_3]
  rw [h, v72_at, lit3_val, sgn_bits]

/-! The regrouped weight, segment by segment. -/

theorem v81_raw (k : Fin 1024) (j : Fin 3200) : h_v81 W (ix2 k j)
    = if h0 : j.val < 256 then h_v49 W (ix2 k ⟨j.val, by omega⟩)
      else if h1 : j.val - 256 < 128 then h_v50 W (ix2 k ⟨j.val - 256, by omega⟩)
      else if h2 : j.val - 256 - 128 < 256 then h_v67 W (ix2 k ⟨j.val - 256 - 128, by omega⟩)
      else if h3 : j.val - 256 - 128 - 256 < 128 then h_v75 W (ix2 k ⟨j.val - 256 - 128 - 256, by omega⟩)
      else if h4 : j.val - 256 - 128 - 256 - 128 < 128 then h_v51 W (ix2 k ⟨j.val - 256 - 128 - 256 - 128, by omega⟩)
      else if h5 : j.val - 256 - 128 - 256 - 128 - 128 < 512 then h_v52 W (ix2 k ⟨j.val - 256 - 128 - 256 - 128 - 128, by omega⟩)
      else if h6 : j.val - 256 - 128 - 256 - 128 - 128 - 512 < 768 then h_v53 W (ix2 k ⟨j.val - 256 - 128 - 256 - 128 - 128 - 512, by omega⟩)
      else if h7 : j.val - 256 - 128 - 256 - 128 - 128 - 512 - 768 < 768 then h_v78 W (ix2 k ⟨j.val - 256 - 128 - 256 - 128 - 128 - 512 - 768, by omega⟩)
      else if h8 : j.val - 256 - 128 - 256 - 128 - 128 - 512 - 768 - 768 < 8 then h_v79 W (ix2 k ⟨j.val - 256 - 128 - 256 - 128 - 128 - 512 - 768 - 768, by omega⟩)
      else if h9 : j.val - 256 - 128 - 256 - 128 - 128 - 512 - 768 - 768 - 8 < 120 then h_v59 (ix2 k ⟨j.val - 256 - 128 - 256 - 128 - 128 - 512 - 768 - 768 - 8, by omega⟩)
      else if h10 : j.val - 256 - 128 - 256 - 128 - 128 - 512 - 768 - 768 - 8 - 120 < 8 then h_v80 W (ix2 k ⟨j.val - 256 - 128 - 256 - 128 - 128 - 512 - 768 - 768 - 8 - 120, by omega⟩)
      else h_v59 (ix2 k ⟨j.val - 256 - 128 - 256 - 128 - 128 - 512 - 768 - 768 - 8 - 120 - 8, by omega⟩) := by
  pointwise [h_v81]

theorem s_q (k : Fin 1024) (j : Fin 3200) (c : Fin 256) (h : j.val = 0 + c.val) : h_v82 W (ix2 k j) = h_v49 W (ix2 k c) := by
  refine (v81_raw W k j).trans ?_
  have hc := c.isLt
  rw [dif_pos (show j.val < 256 by omega)]
  exact congrArg (fun x : Fin 256 => h_v49 W (ix2 k x)) (Fin.ext (show j.val = c.val by omega))

theorem s_k (k : Fin 1024) (j : Fin 3200) (c : Fin 128) (h : j.val = 256 + c.val) : h_v82 W (ix2 k j) = h_v50 W (ix2 k c) := by
  refine (v81_raw W k j).trans ?_
  have hc := c.isLt
  rw [dif_neg (show ¬ j.val < 256 by omega), dif_pos (show j.val - 256 < 128 by omega)]
  exact congrArg (fun x : Fin 128 => h_v50 W (ix2 k x)) (Fin.ext (show j.val - 256 = c.val by omega))

theorem s_rq (k : Fin 1024) (j : Fin 3200) (c : Fin 256) (h : j.val = 384 + c.val) : h_v82 W (ix2 k j) = h_v67 W (ix2 k c) := by
  refine (v81_raw W k j).trans ?_
  have hc := c.isLt
  rw [dif_neg (show ¬ j.val < 256 by omega), dif_neg (show ¬ j.val - 256 < 128 by omega), dif_pos (show j.val - 256 - 128 < 256 by omega)]
  exact congrArg (fun x : Fin 256 => h_v67 W (ix2 k x)) (Fin.ext (show j.val - 256 - 128 = c.val by omega))

theorem s_rk (k : Fin 1024) (j : Fin 3200) (c : Fin 128) (h : j.val = 640 + c.val) : h_v82 W (ix2 k j) = h_v75 W (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_pos (show j.val - 256 - 128 - 256 < 128 by omega)]
  exact congrArg (fun x : Fin 128 => h_v75 W (ix2 k x)) (Fin.ext (show j.val - 256 - 128 - 256 = c.val by omega))

theorem s_v (k : Fin 1024) (j : Fin 3200) (c : Fin 128) (h : j.val = 768 + c.val) : h_v82 W (ix2 k j) = h_v51 W (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_pos (show j.val - 256 - 128 - 256 - 128 < 128 by omega)]
  exact congrArg (fun x : Fin 128 => h_v51 W (ix2 k x)) (Fin.ext (show j.val - 256 - 128 - 256 - 128 = c.val by omega))

theorem s_z (k : Fin 1024) (j : Fin 3200) (c : Fin 512) (h : j.val = 896 + c.val) : h_v82 W (ix2 k j) = h_v52 W (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_neg (show ¬ j.val - 256 - 128 - 256 - 128 < 128 by omega), dif_pos (show j.val - 256 - 128 - 256 - 128 - 128 < 512 by omega)]
  exact congrArg (fun x : Fin 512 => h_v52 W (ix2 k x)) (Fin.ext (show j.val - 256 - 128 - 256 - 128 - 128 = c.val by omega))

theorem s_xbc (k : Fin 1024) (j : Fin 3200) (c : Fin 768) (h : j.val = 1408 + c.val) : h_v82 W (ix2 k j) = h_v53 W (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_neg (show ¬ j.val - 256 - 128 - 256 - 128 < 128 by omega), dif_neg (show ¬ j.val - 256 - 128 - 256 - 128 - 128 < 512 by omega), dif_pos (show j.val - 256 - 128 - 256 - 128 - 128 - 512 < 768 by omega)]
  exact congrArg (fun x : Fin 768 => h_v53 W (ix2 k x)) (Fin.ext (show j.val - 256 - 128 - 256 - 128 - 128 - 512 = c.val by omega))

theorem s_na (k : Fin 1024) (j : Fin 3200) (c : Fin 768) (h : j.val = 2176 + c.val) : h_v82 W (ix2 k j) = h_v78 W (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_neg (show ¬ j.val - 256 - 128 - 256 - 128 < 128 by omega), dif_neg (show ¬ j.val - 256 - 128 - 256 - 128 - 128 < 512 by omega), dif_neg (show ¬ j.val - 256 - 128 - 256 - 128 - 128 - 512 < 768 by omega), dif_pos (show j.val - 256 - 128 - 256 - 128 - 128 - 512 - 768 < 768 by omega)]
  exact congrArg (fun x : Fin 768 => h_v78 W (ix2 k x)) (Fin.ext (show j.val - 256 - 128 - 256 - 128 - 128 - 512 - 768 = c.val by omega))

theorem s_d0 (k : Fin 1024) (j : Fin 3200) (c : Fin 8) (h : j.val = 2944 + c.val) : h_v82 W (ix2 k j) = h_v79 W (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_neg (show ¬ j.val - 256 - 128 - 256 - 128 < 128 by omega), dif_neg (show ¬ j.val - 256 - 128 - 256 - 128 - 128 < 512 by omega), dif_neg (show ¬ j.val - 256 - 128 - 256 - 128 - 128 - 512 < 768 by omega), dif_neg (show ¬ j.val - 256 - 128 - 256 - 128 - 128 - 512 - 768 < 768 by omega), dif_pos (show j.val - 256 - 128 - 256 - 128 - 128 - 512 - 768 - 768 < 8 by omega)]
  exact congrArg (fun x : Fin 8 => h_v79 W (ix2 k x)) (Fin.ext (show j.val - 256 - 128 - 256 - 128 - 128 - 512 - 768 - 768 = c.val by omega))

theorem s_p0 (k : Fin 1024) (j : Fin 3200) (c : Fin 120) (h : j.val = 2952 + c.val) : h_v82 W (ix2 k j) = h_v59 (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_neg (show ¬ j.val - 256 - 128 - 256 - 128 < 128 by omega), dif_neg (show ¬ j.val - 256 - 128 - 256 - 128 - 128 < 512 by omega), dif_neg (show ¬ j.val - 256 - 128 - 256 - 128 - 128 - 512 < 768 by omega), dif_neg (show ¬ j.val - 256 - 128 - 256 - 128 - 128 - 512 - 768 < 768 by omega), dif_neg (show ¬ j.val - 256 - 128 - 256 - 128 - 128 - 512 - 768 - 768 < 8 by omega), dif_pos (show j.val - 256 - 128 - 256 - 128 - 128 - 512 - 768 - 768 - 8 < 120 by omega)]
  exact congrArg (fun x : Fin 120 => h_v59 (ix2 k x)) (Fin.ext (show j.val - 256 - 128 - 256 - 128 - 128 - 512 - 768 - 768 - 8 = c.val by omega))

theorem s_d1 (k : Fin 1024) (j : Fin 3200) (c : Fin 8) (h : j.val = 3072 + c.val) : h_v82 W (ix2 k j) = h_v80 W (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_neg (show ¬ j.val - 256 - 128 - 256 - 128 < 128 by omega), dif_neg (show ¬ j.val - 256 - 128 - 256 - 128 - 128 < 512 by omega), dif_neg (show ¬ j.val - 256 - 128 - 256 - 128 - 128 - 512 < 768 by omega), dif_neg (show ¬ j.val - 256 - 128 - 256 - 128 - 128 - 512 - 768 < 768 by omega), dif_neg (show ¬ j.val - 256 - 128 - 256 - 128 - 128 - 512 - 768 - 768 < 8 by omega), dif_neg (show ¬ j.val - 256 - 128 - 256 - 128 - 128 - 512 - 768 - 768 - 8 < 120 by omega), dif_pos (show j.val - 256 - 128 - 256 - 128 - 128 - 512 - 768 - 768 - 8 - 120 < 8 by omega)]
  exact congrArg (fun x : Fin 8 => h_v80 W (ix2 k x)) (Fin.ext (show j.val - 256 - 128 - 256 - 128 - 128 - 512 - 768 - 768 - 8 - 120 = c.val by omega))

theorem s_p1 (k : Fin 1024) (j : Fin 3200) (c : Fin 120) (h : j.val = 3080 + c.val) : h_v82 W (ix2 k j) = h_v59 (ix2 k c) := by
  refine (v81_raw W k j).trans ?_
  have hc := c.isLt
  rw [dif_neg (show ¬ j.val < 256 by omega), dif_neg (show ¬ j.val - 256 < 128 by omega), dif_neg (show ¬ j.val - 256 - 128 < 256 by omega), dif_neg (show ¬ j.val - 256 - 128 - 256 < 128 by omega), dif_neg (show ¬ j.val - 256 - 128 - 256 - 128 < 128 by omega), dif_neg (show ¬ j.val - 256 - 128 - 256 - 128 - 128 < 512 by omega), dif_neg (show ¬ j.val - 256 - 128 - 256 - 128 - 128 - 512 < 768 by omega), dif_neg (show ¬ j.val - 256 - 128 - 256 - 128 - 128 - 512 - 768 < 768 by omega), dif_neg (show ¬ j.val - 256 - 128 - 256 - 128 - 128 - 512 - 768 - 768 < 8 by omega), dif_neg (show ¬ j.val - 256 - 128 - 256 - 128 - 128 - 512 - 768 - 768 - 8 < 120 by omega), dif_neg (show ¬ j.val - 256 - 128 - 256 - 128 - 128 - 512 - 768 - 768 - 8 - 120 < 8 by omega)]
  exact congrArg (fun x : Fin 120 => h_v59 (ix2 k x)) (Fin.ext (show j.val - 256 - 128 - 256 - 128 - 128 - 512 - 768 - 768 - 8 - 120 - 8 = c.val by omega))

theorem w_qk (k : Fin 1024) (j : Fin 3200) (c : Fin 384) (h : j.val = c.val) : h_v82 W (ix2 k j) = W (ix2 k ⟨c.val, by omega⟩) := by
  have hc := c.isLt
  by_cases h1 : c.val < 256
  · rw [s_q W k j ⟨c.val, h1⟩ (show j.val = 0 + c.val by omega), v49_at]
  · rw [s_k W k j ⟨c.val - 256, by omega⟩ (show j.val = 256 + (c.val - 256) by omega), v50_at]
    exact congrArg (fun x : Fin 2576 => W (ix2 k x)) (Fin.ext (show 256 + (c.val - 256) = c.val by omega))

theorem partner_lt3 (c : Fin 384) : partner c.val < 2576 := by
  have := c.isLt
  unfold partner
  by_cases h : c.val % 32 < 16
  · rw [if_pos h]; omega
  · rw [if_neg h]; omega

theorem partner_sub (c : Nat) (h : ¬ c < 256) : 256 + partner (c - 256) = partner c := by
  unfold partner
  by_cases h1 : c % 32 < 16
  · rw [if_pos h1, if_pos (show (c - 256) % 32 < 16 by omega)]; omega
  · rw [if_neg h1, if_neg (show ¬ (c - 256) % 32 < 16 by omega)]; omega

theorem sgn_sub (c : Nat) (h : ¬ c < 256) : sgn (c - 256) = sgn c := by
  unfold sgn
  by_cases h1 : c % 32 < 16
  · rw [if_pos h1, if_pos (show (c - 256) % 32 < 16 by omega)]
  · rw [if_neg h1, if_neg (show ¬ (c - 256) % 32 < 16 by omega)]

theorem w_rot (k : Fin 1024) (j : Fin 3200) (c : Fin 384) (h : j.val = 384 + c.val) :
    h_v82 W (ix2 k j) = W (ix2 k ⟨partner c.val, partner_lt3 c⟩) * sgn c.val := by
  have hc := c.isLt
  by_cases h1 : c.val < 256
  · rw [s_rq W k j ⟨c.val, h1⟩ (show j.val = 384 + c.val from h), v67_at]
  · rw [s_rk W k j ⟨c.val - 256, by omega⟩ (show j.val = 640 + (c.val - 256) by omega), v75_at]
    exact congrArg₂ (fun (x : Fin 2576) (y : EReal) => W (ix2 k x) * y) (Fin.ext (partner_sub c.val h1)) (sgn_sub c.val h1)

theorem w_v (k : Fin 1024) (j : Fin 3200) (c : Fin 128) (h : j.val = 768 + c.val) : h_v82 W (ix2 k j) = W (ix2 k ⟨384 + c.val, by omega⟩) := by
  rw [s_v W k j c h]
  pointwise [h_v51]

theorem w_z (k : Fin 1024) (j : Fin 3200) (c : Fin 512) (h : j.val = 896 + c.val) : h_v82 W (ix2 k j) = W (ix2 k ⟨512 + c.val, by omega⟩) := by
  rw [s_z W k j c h]
  pointwise [h_v52]

theorem w_xbc (k : Fin 1024) (j : Fin 3200) (c : Fin 768) (h : j.val = 1408 + c.val) : h_v82 W (ix2 k j) = W (ix2 k ⟨1024 + c.val, by omega⟩) := by
  rw [s_xbc W k j c h]
  pointwise [h_v53]

theorem w_na (k : Fin 1024) (j : Fin 3200) (c : Fin 768) (h : j.val = 2176 + c.val) : h_v82 W (ix2 k j)
    = if c.val < 256 then W (ix2 k ⟨1808 + c.val, by omega⟩) * Ideal.ofBits .f32 1040187392#32 else W (ix2 k ⟨1808 + c.val, by omega⟩) := by
  rw [s_na W k j c h]
  pointwise [h_v78, h_v77, h_v76, h_v58, h_v56, h_v57, h_cst_14, h_cst_15, h_v55]
  by_cases h : c.val < 256
  · rw [dif_pos h, if_pos h]
  · rw [dif_neg h, if_neg h, mul_one]

theorem v59_at (k : Fin 1024) (c : Fin 120) : h_v59 (ix2 k c) = 0 := by
  pointwise [h_v59, h_cst_16]

theorem w_dt (k : Fin 1024) (j : Fin 3200) (c : Fin 256) (h : j.val = 2944 + c.val) : h_v82 W (ix2 k j)
    = if h : c.val < 8 then W (ix2 k ⟨1792 + c.val, by omega⟩)
      else if h : c.val - 8 < 120 then 0
      else if h : c.val - 8 - 120 < 8 then W (ix2 k ⟨1800 + (c.val - 8 - 120), by omega⟩) else 0 := by
  have hc := c.isLt
  by_cases h1 : c.val < 8
  · rw [dif_pos h1, s_d0 W k j ⟨c.val, h1⟩ h]
    pointwise [h_v79, h_v54]
  · rw [dif_neg h1]
    by_cases h2 : c.val - 8 < 120
    · rw [dif_pos h2, s_p0 W k j ⟨c.val - 8, h2⟩ (show j.val = 2952 + (c.val - 8) by omega), v59_at]
    · rw [dif_neg h2]
      by_cases h3 : c.val - 8 - 120 < 8
      · rw [dif_pos h3, s_d1 W k j ⟨c.val - 8 - 120, h3⟩ (show j.val = 3072 + (c.val - 8 - 120) by omega)]
        pointwise [h_v80, h_v54]
        exact congrArg (fun x : Fin 2576 => W (ix2 k x)) (Fin.ext (by simp only []; omega))
      · rw [dif_neg h3, s_p1 W k j ⟨c.val - 8 - 120 - 8, by omega⟩ (show j.val = 3080 + (c.val - 8 - 120 - 8) by omega), v59_at]

/-! The tables. -/

/-- The scale folded into the query columns. -/
def scl (c : Nat) : EReal := if c < 256 then Ideal.ofBits .f32 1040187392#32 else 1

theorem v26_at (s : Fin 2048) (c : Fin 64) : h_v26 r_v77 r_v116 (ix2 s c) = ang s c.val := by
  have hc := c.isLt
  pointwise [h_v26]
  by_cases h1 : c.val < 16
  · rw [dif_pos h1]
    exact Cert.InprojRefIdeal.Part.ang_row _ _ _ _ rfl (by omega) (show c.val = c.val % 16 by omega)
  · rw [dif_neg h1]
    by_cases h2 : c.val - 16 < 16
    · rw [dif_pos h2]
      exact Cert.InprojRefIdeal.Part.ang_row _ _ _ _ rfl (by omega) (show c.val - 16 = c.val % 16 by omega)
    · rw [dif_neg h2]
      by_cases h3 : c.val - 16 - 16 < 16
      · rw [dif_pos h3]
        exact Cert.InprojRefIdeal.Part.ang_col _ _ _ _ rfl (by omega) (show c.val - 16 - 16 = c.val % 16 by omega)
      · rw [dif_neg h3]
        exact Cert.InprojRefIdeal.Part.ang_col _ _ _ _ rfl (by omega) (show c.val - 16 - 16 - 16 = c.val % 16 by omega)

theorem ang_mod (s : Fin 2048) (c : Nat) : ang s (c % 64) = ang s c := by
  unfold ang
  simp only [show c % 64 % 64 = c % 64 by omega, show c % 64 % 16 = c % 16 by omega]

theorem cos_at (j : Fin 2560) (c : Fin 384) : h_v45 r_v77 r_v116 (ix2 j c) = if h : j.val < 2048 then Ideal.cos (ang ⟨j.val, h⟩ c.val) * scl c.val else scl c.val := by
  pointwise [h_v45, h_v37, h_v34, h_v33, h_v32, h_v27, h_v36, h_v35, h_v44, h_v31, h_v29, h_v30, h_cst_11, h_cst_12]
  simp only [v26_at, ang_mod, scl, dite_eq_ite]

theorem sin_at (j : Fin 2560) (c : Fin 384) : h_v47 r_v77 r_v116 (ix2 j c) = if h : j.val < 2048 then Ideal.sin (ang ⟨j.val, h⟩ c.val) * scl c.val else 0 := by
  pointwise [h_v47, h_v43, h_v40, h_v39, h_v38, h_v28, h_v42, h_v41, h_v46, h_v31, h_v29, h_v30, h_cst_11, h_cst_12, h_cst_13]
  simp only [v26_at, ang_mod, scl, dite_eq_ite]

end Cert.InprojIdeal.Tab

end
-- ==== Proof.InprojEntry.lean ====
/-
  The input projection, the kernel's side: the arrays its region finds when it starts, as the functions of the arguments
  whose entries `InprojHost` gives.
-/
module

public import proofs.«01_k».proof.Proof.InprojHost

@[expose] public section

set_option maxRecDepth 16384

noncomputable section

open Idealize.ShloMosaic Idealize.ShloMosaic.TcCoe Idealize.SL.Sem
open Idealize.ShloMosaic.Pipeline (Dat)

namespace Cert.InprojIdeal.Tab

open Cert.InprojIdeal Cert.InprojIdeal.Gen
open Cert.InprojRefIdeal.Part (ang r_v77 r_v116)

/-! What the region finds in its entry arrays. The tables are read off the last stretch of the host code, as functions
    of the angles before it. -/

theorem after_cut (A B C D E : List (HloOp τ sig (Elt Ideal))) (n : Nat) (σ : Valuation τ sig (Elt Ideal)) :
    StableHlo.after [A, B, C, D, E].flatten σ
      = StableHlo.after (E.drop n) (StableHlo.after (A ++ (B ++ (C ++ (D ++ E.take n)))) σ) := by
  rw [← StableHlo.after_append]
  congr 1
  simp only [List.flatten_cons, List.flatten_nil, List.append_nil, List.append_assoc, List.take_append_drop]

/-- The host code from the angles on. -/
def tailOps : List (HloOp τ sig (Elt Ideal)) := hostOps0_4.drop 27

theorem tail20 (σ : Valuation τ sig (Elt Ideal)) : StableHlo.after tailOps σ (Proc.devRef .tc main_v20) = σ (Proc.devRef .tc main_v20) := rfl

theorem tail25 (σ : Valuation τ sig (Elt Ideal)) : StableHlo.after tailOps σ (Proc.devRef .tc main_v25) = σ (Proc.devRef .tc main_v25) := rfl

theorem tail45 (σ : Valuation τ sig (Elt Ideal)) :
    StableHlo.after tailOps σ (Proc.devRef .tc main_v45) = h_v45 (σ (Proc.devRef .tc main_v20)) (σ (Proc.devRef .tc main_v25)) := rfl

theorem tail47 (σ : Valuation τ sig (Elt Ideal)) :
    StableHlo.after tailOps σ (Proc.devRef .tc main_v47) = h_v47 (σ (Proc.devRef .tc main_v20)) (σ (Proc.devRef .tc main_v25)) := rfl

variable (m : (ℓ : Loc nD τ sig) → Buf (Elt Ideal) ℓ)

/-- The contents before that stretch. -/
def mid (c : Dev nD) : Valuation τ sig (Elt Ideal) :=
  StableHlo.after (hostOps0 ++ (hostOps0_1 ++ (hostOps0_2 ++ (hostOps0_3 ++ hostOps0_4.take 27)))) (fun b => m (c, b))

theorem V_cut (c : Dev nD) (b : Ref sig .tc) : V m c b = StableHlo.after tailOps (mid m c) (Proc.devRef .tc b) :=
  congrFun (after_cut hostOps0 hostOps0_1 hostOps0_2 hostOps0_3 hostOps0_4 27 (fun b => m (c, b))) (Proc.devRef .tc b)

theorem V20 (c : Dev nD) : V m c main_v20 = r_v77 := by
  entry_read
  rfl

theorem V25 (c : Dev nD) : V m c main_v25 = r_v116 := by
  entry_read
  rfl

theorem mid20 (c : Dev nD) : mid m c (Proc.devRef .tc main_v20) = r_v77 :=
  (tail20 (mid m c)).symm.trans ((V_cut m c main_v20).symm.trans (V20 m c))

theorem mid25 (c : Dev nD) : mid m c (Proc.devRef .tc main_v25) = r_v116 :=
  (tail25 (mid m c)).symm.trans ((V_cut m c main_v25).symm.trans (V25 m c))

theorem V45 (c : Dev nD) : V m c main_v45 = h_v45 r_v77 r_v116 :=
  (V_cut m c main_v45).trans ((tail45 (mid m c)).trans (congrArg₂ h_v45 (mid20 m c) (mid25 m c)))

theorem V47 (c : Dev nD) : V m c main_v47 = h_v47 r_v77 r_v116 :=
  (V_cut m c main_v47).trans ((tail47 (mid m c)).trans (congrArg₂ h_v47 (mid20 m c) (mid25 m c)))

theorem V48 (c : Dev nD) : V m c main_v48 = shapeCast S1x1024 (m ((c : Thread nD τ).loc main_arg2)) shapeCasts_S1024_S1x1024 := by
  entry_read
  rfl

set_option maxHeartbeats 4000000 in
theorem V82 (c : Dev nD) : V m c main_v82 = h_v82 (m ((c : Thread nD τ).loc main_arg3)) := by
  entry_read
  rfl

end Cert.InprojIdeal.Tab

end
-- ==== Proof.InprojValue.lean ====
/-
  The input projection, the kernel's six result arrays. Each is the reference's: the rows and the columns agree entry by
  entry, the sign and the scale folded into the prepared columns come out of the dot products, and the two products with
  the tables add up to the rotation.
-/
module

public import proofs.«01_k».proof.Proof.InprojBlock
public import proofs.«01_k».proof.Proof.InprojEntry

@[expose] public section

set_option maxRecDepth 16384

noncomputable section

open Idealize.ShloMosaic Idealize.ShloMosaic.TcCoe Idealize.SL.Sem
open Idealize.ShloMosaic.Pipeline (Dat)

namespace Cert.InprojIdeal.KVal

open Cert.InprojIdeal Cert.InprojIdeal.Gen Cert.InprojIdeal.Tab Cert.InprojFinite
open Cert.InprojRefIdeal.Part

variable (m : (ℓ : Loc nD τ sig) → Buf (Elt Ideal) ℓ)

/-- The four arguments. -/
def aX (c : Dev nD) : FVec Ideal S18432x1024 .f32 := m ((c : Thread nD τ).loc main_arg0)
def aM (c : Dev nD) : FVec Ideal S16x6x1024 .f32 := m ((c : Thread nD τ).loc main_arg1)
def aG (c : Dev nD) : FVec Ideal S1024 .f32 := m ((c : Thread nD τ).loc main_arg2)
def aW (c : Dev nD) : FVec Ideal S1024x2576 .f32 := m ((c : Thread nD τ).loc main_arg3)

theorem rd2 (c : Dev nD) (t : Fin cfg0.N) (b : Fin 1024) :
    (show FVec Ideal S1x1024 .f32 from iblk m c 2 t) (ix2 0 b) = aG m c (ix1 b) := by
  rw [rd2', V48]
  pointwise [aG]

/-- The modulated rows of point `t`. -/
def hb (c : Dev nD) (t : Fin cfg0.N) : FVec Ideal S512x1024 .bf16 := k0_pay7 (F := Ideal) (iblk m c 0 t) (iblk m c 1 t) (iblk m c 2 t)

theorem hb_at (c : Dev nD) (t : Fin cfg0.N) (a : Fin 512) (k : Fin 1024) :
    hb m c t (ix2 a k) = hid (aX m c) (aM m c) (aG m c) (row t a) (mr (row t a)) k := by
  refine (pay7_at _ _ _ a k).trans ?_
  have h := fun j => rd0 m c t a j
  rw [← mrow_eq t a]
  refine congrArg₂ (fun x y : EReal => x + y) (congrArg₂ (fun x y : EReal => x * y) (congrArg₂ (fun x y : EReal => x * y)
    (congrArg₂ (fun x y : EReal => x * y) (h k) ?_) (rd2 m c t k)) (congrArg (fun x : EReal => 1 + x) (rd1 m c t 1 k))) (rd1 m c t 0 k)
  refine congrArg (fun x : EReal => Ideal.rsqrt (Ideal.div x (Ideal.ofBits .f32 1149239296#32) + Ideal.ofBits .f32 897988541#32)) ?_
  exact Finset.sum_congr rfl fun j _ => congrArg₂ (fun x y : EReal => x * y) (h j) (h j)

/-- Those rows under the name the stores have for them. -/
theorem rows (c : Dev nD) (t : Fin cfg0.N) :
    k0_pay10 (F := Ideal) (iblk m c 0 t) (iblk m c 1 t) (iblk m c 2 t) (iblk m c 3 t) (iblk m c 4 t) (iblk m c 5 t) = hb m c t := by
  unfold k0_pay10 hb
  frame_out

/-- The tables, as point `t` reads them. -/
theorem cosb (c : Dev nD) (t : Fin cfg0.N) (a : Fin 512) (b : Fin 384) :
    (show FVec Ideal S512x384 .f32 from iblk m c 4 t) (ix2 a b)
      = if h : (tab t a).val < 2048 then Ideal.cos (ang ⟨(tab t a).val, h⟩ b.val) * scl b.val else scl b.val := by
  rw [rd4, V45]
  exact cos_at _ _

theorem sinb (c : Dev nD) (t : Fin cfg0.N) (a : Fin 512) (b : Fin 384) :
    (show FVec Ideal S512x384 .f32 from iblk m c 5 t) (ix2 a b)
      = if h : (tab t a).val < 2048 then Ideal.sin (ang ⟨(tab t a).val, h⟩ b.val) * scl b.val else 0 := by
  rw [rd5, V47]
  exact sin_at _ _

/-- A dot product of a modulated row with a group of prepared columns whose entries are known. -/
theorem dot_eq (c : Dev nD) (t : Fin cfg0.N) (o n : ℕ) (h : ∀ a, (![0, o] : Fin 2 → ℕ) a + (⟨2, ![1024, n]⟩ : Shape).size a ≤ S1024x3200.size a)
    (a : Fin 512) (b : Fin n) (hj : o + b.val < 3200) (w : Fin 1024 → EReal) (hw : ∀ k, h_v82 (aW m c) (ix2 k ⟨o + b.val, hj⟩) = w k) :
    ∑ k : Fin 1024, hb m c t (ix2 a k)
        * View.ld (Val := Elt Ideal) (e' := .bf16) (iblk m c 3 t : Vec Ideal S1024x3200 .bf16) (Rect.unit (s := S1024x3200) ![0, o] (⟨2, ![1024, n]⟩ : Shape).size h) (ix2 k b)
      = ∑ k : Fin 1024, hid (aX m c) (aM m c) (aG m c) (row t a) (mr (row t a)) k * w k := by
  refine Finset.sum_congr rfl fun k _ => ?_
  refine congrArg₂ (fun x y : EReal => x * y) (hb_at m c t a k) ?_
  refine (rdw m c t o n h k b hj).trans ?_
  rw [V82]
  exact hw k

/-- The scale is a number and not negative. -/
theorem eighth_nonneg : (0 : EReal) ≤ Ideal.ofBits .f32 1040187392#32 := by
  rw [bits_eighth]
  exact EReal.coe_nonneg.2 (by norm_num)

theorem eighth_ne_top : Ideal.ofBits .f32 1040187392#32 ≠ (⊤ : EReal) := by
  rw [bits_eighth]
  exact EReal.coe_ne_top _

theorem scl_nonneg (c : Nat) : 0 ≤ scl c := by
  unfold scl
  by_cases h : c < 256
  · rw [if_pos h]; exact eighth_nonneg
  · rw [if_neg h]; exact zero_le_one

theorem scl_ne_top (c : Nat) : scl c ≠ ⊤ := by
  unfold scl
  by_cases h : c < 256
  · rw [if_pos h]; exact eighth_ne_top
  · rw [if_neg h]; exact EReal.coe_ne_top 1

/-- Two products with scaled factors, the scale taken out. -/
theorem scaled (u v x y s : EReal) (h0 : 0 ≤ s) (h1 : s ≠ ⊤) : u * (x * s) + v * (y * s) = (u * x + v * y) * s := by
  rw [EReal.right_distrib_of_nonneg_of_ne_top h0 h1, mul_assoc, mul_assoc]

theorem Rqk_scl (X : FVec Ideal S18432x1024 .f32) (M : FVec Ideal S16x6x1024 .f32) (G : FVec Ideal S1024 .f32) (W : FVec Ideal S1024x2576 .f32)
    (r : Fin 18432) (b : Fin 384) : Rqk X M G W (ix2 r b) = rot X M G W r b * scl b.val := by
  rw [Rqk_at]
  unfold scl
  by_cases h : b.val < 256
  · rw [if_pos h, if_pos h]
  · rw [if_neg h, if_neg h, mul_one]

/-- The two dot products with the tables' entries are the scaled rotation. -/
theorem rotate (c : Dev nD) (t : Fin cfg0.N) (a : Fin 512) (b : Fin 384)
    (hX : ∀ i, Num (aX m c i)) (hM : ∀ i, Num (aM m c i)) (hG : ∀ i, Num (aG m c i)) (hW : ∀ i, Num (aW m c i)) :
    (∑ k : Fin 1024, hid (aX m c) (aM m c) (aG m c) (row t a) (mr (row t a)) k * aW m c (ix2 k ⟨b.val, by omega⟩))
        * (if h : (tab t a).val < 2048 then Ideal.cos (ang ⟨(tab t a).val, h⟩ b.val) * scl b.val else scl b.val)
      + (∑ k : Fin 1024, hid (aX m c) (aM m c) (aG m c) (row t a) (mr (row t a)) k * (aW m c (ix2 k ⟨partner b.val, partner_lt3 b⟩) * sgn b.val))
        * (if h : (tab t a).val < 2048 then Ideal.sin (ang ⟨(tab t a).val, h⟩ b.val) * scl b.val else 0)
      = rot (aX m c) (aM m c) (aG m c) (aW m c) (row t a) b * scl b.val := by
  unfold rot
  by_cases hr : (row t a).val < 16384
  · have ht : (tab t a).val < 2048 := by rw [tab_lat t a hr]; omega
    have hs : (⟨(tab t a).val, ht⟩ : Fin 2048) = ⟨(row t a).val % 2048, by omega⟩ := Fin.ext (tab_lat t a hr)
    rw [dif_pos ht, dif_pos ht, if_pos hr, hs, scaled _ _ _ _ _ (scl_nonneg _) (scl_ne_top _)]
    refine congrArg (fun x : EReal => x * scl b.val) ?_
    by_cases hc : b.val % 32 < 16
    · rw [if_pos hc, show sgn b.val = -1 from if_pos hc,
        neg_dot _ (fun k => hid_num hX hM hG _ _ k) (fun k => hW _), EReal.neg_mul, ← sub_eq_add_neg]
      have hp : (⟨partner b.val, partner_lt3 b⟩ : Fin 2576) = ⟨b.val + 16, by omega⟩ := Fin.ext (if_pos hc)
      rw [hp]
      rfl
    · rw [if_neg hc, show sgn b.val = 1 from if_neg hc]
      simp only [mul_one]
      have hp : (⟨partner b.val, partner_lt3 b⟩ : Fin 2576) = ⟨b.val - 16, by omega⟩ := Fin.ext (if_neg hc)
      rw [hp]
      rfl
  · rw [dif_neg (tab_ctx t a hr), dif_neg (tab_ctx t a hr), if_neg hr, mul_zero, add_zero]
    rfl

/-- The rotated queries and keys. -/
theorem final6 (c : Dev nD)
    (hX : ∀ i, Num (aX m c i)) (hM : ∀ i, Num (aM m c i)) (hG : ∀ i, Num (aG m c i)) (hW : ∀ i, Num (aW m c i)) :
    (dats m 0 c).arrAt 6 cfg0.N = Rqk (aX m c) (aM m c) (aG m c) (aW m c) := by
  refine (dats m 0 c).arrAt_eq_of_covers 6 _ (by decide +kernel) fun t _ y => ?_
  blk_simp
  rw [after0_6]
  frame_out
  idx_vars y
  refine (pay1_at _ _ _ _ _ _ _ _ _).trans ?_
  refine Eq.trans ?_ (wr6 t y0 y1 _).symm
  rw [Rqk_scl]
  refine Eq.trans ?_ (rotate m c t y0 y1 hX hM hG hW)
  refine congrArg₂ (fun x y : EReal => x + y)
    (congrArg₂ (fun x y : EReal => x * y) (dot_eq m c t 0 384 _ y0 y1 (by omega) _ fun k => w_qk _ k _ y1 (Nat.zero_add _)) (cosb m c t y0 y1))
    (congrArg₂ (fun x y : EReal => x * y) (dot_eq m c t 384 384 _ y0 y1 (by omega) _ fun k => w_rot _ k _ y1 rfl) (sinb m c t y0 y1))

/-- The values. -/
theorem final7 (c : Dev nD) : (dats m 0 c).arrAt 7 cfg0.N = Rv (aX m c) (aM m c) (aG m c) (aW m c) := by
  refine (dats m 0 c).arrAt_eq_of_covers 7 _ (by decide +kernel) fun t _ y => ?_
  blk_simp
  rw [after0_7]
  frame_out
  rw [rows]
  idx_vars y
  refine (pay2_at _ _ _ _).trans ?_
  refine Eq.trans ?_ (wr7 t y0 y1 _).symm
  rw [Rv_at]
  exact dot_eq m c t 768 128 _ y0 y1 (by omega) _ fun k => w_v _ k _ y1 rfl

/-- The gate of the state-space branch. -/
theorem final8 (c : Dev nD) : (dats m 0 c).arrAt 8 cfg0.N = Rz (aX m c) (aM m c) (aG m c) (aW m c) := by
  refine (dats m 0 c).arrAt_eq_of_covers 8 _ (by decide +kernel) fun t _ y => ?_
  blk_simp
  rw [after0_8]
  frame_out
  rw [rows]
  idx_vars y
  refine (pay3_at _ _ _ _).trans ?_
  refine Eq.trans ?_ (wr8 t y0 y1 _).symm
  rw [Rz_at]
  exact dot_eq m c t 896 512 _ y0 y1 (by omega) _ fun k => w_z _ k _ y1 rfl

/-- The columns of the state-space branch that are convolved. -/
theorem final9 (c : Dev nD) : (dats m 0 c).arrAt 9 cfg0.N = Rxbc (aX m c) (aM m c) (aG m c) (aW m c) := by
  refine (dats m 0 c).arrAt_eq_of_covers 9 _ (by decide +kernel) fun t _ y => ?_
  blk_simp
  rw [after0_9]
  frame_out
  rw [rows]
  idx_vars y
  refine (pay4_at _ _ _ _).trans ?_
  refine Eq.trans ?_ (wr9 t y0 y1 _).symm
  rw [Rxbc_at]
  exact dot_eq m c t 1408 768 _ y0 y1 (by omega) _ fun k => w_xbc _ k _ y1 rfl

/-- Queries (scaled), keys and values of the neighbourhood attention. -/
theorem final10 (c : Dev nD) : (dats m 0 c).arrAt 10 cfg0.N = Rna (aX m c) (aM m c) (aG m c) (aW m c) := by
  refine (dats m 0 c).arrAt_eq_of_covers 10 _ (by decide +kernel) fun t _ y => ?_
  blk_simp
  rw [after0_10]
  frame_out
  rw [rows]
  idx_vars y
  refine (pay5_at _ _ _ _).trans ?_
  refine Eq.trans ?_ (wr10 t y0 y1 _).symm
  rw [Rna_at]
  refine (dot_eq m c t 2176 768 _ y0 y1 (by omega) _ fun k => w_na _ k _ y1 rfl).trans ?_
  by_cases h : y1.val < 256
  · simp only [if_pos h]
    refine Eq.trans ?_ (Cert.Softmax.sum_mul_right _ _ eighth_nonneg eighth_ne_top)
    exact Finset.sum_congr rfl fun k _ => (mul_assoc _ _ _).symm
  · simp only [if_neg h]
    rfl

/-- The time steps of the two directions, with the unused columns zero. -/
theorem final11 (c : Dev nD) : (dats m 0 c).arrAt 11 cfg0.N = Rdt (aX m c) (aM m c) (aG m c) (aW m c) := by
  refine (dats m 0 c).arrAt_eq_of_covers 11 _ (by decide +kernel) fun t _ y => ?_
  blk_simp
  rw [after0_11]
  frame_out
  rw [rows]
  idx_vars y
  refine (pay6_at _ _ _ _).trans ?_
  refine Eq.trans ?_ (wr11 t y0 y1 _).symm
  rw [Rdt_at]
  refine (dot_eq m c t 2944 256 _ y0 y1 (by omega) _ fun k => w_dt _ k _ y1 rfl).trans ?_
  by_cases h1 : y1.val < 8
  · simp only [dif_pos h1]
    rfl
  · simp only [dif_neg h1]
    by_cases h2 : y1.val - 8 < 120
    · simp only [dif_pos h2, mul_zero, Finset.sum_const_zero]
    · simp only [dif_neg h2]
      by_cases h3 : y1.val - 8 - 120 < 8
      · simp only [dif_pos h3]
        rfl
      · simp only [dif_neg h3, mul_zero, Finset.sum_const_zero]

end Cert.InprojIdeal.KVal

end
-- ==== Proof.lean ====
/- The claims, put together from one module per call:
   - the sliding-window attention: `Proof/WattnValue.lean`, whose `final` says what the array of the call holds at the end;
   - the mixture of experts: `Proof/MoeValue.lean`, whose `final` says what the array of the call holds at the end;
   - the final normalisation: `Proof/NormValue.lean`, whose `final` says what the array of the call holds at the end;
   - the input projection: `Proof/InprojValue.lean`, whose `final` says what the array of the call holds at the end;
   Each kernel's run, and the fact that it changes no argument and ends with every semaphore at zero, is the generated
   `Gen.frame` and `Gen.run_main`; a reference is host operations only. -/
module

public import proofs.«01_k».proof.Defs
public import proofs.«01_k».proof.Proof.Gen.Wattn
public import proofs.«01_k».proof.Proof.Gen.WattnIdeal
public import proofs.«01_k».proof.Proof.Gen.WattnRefIdeal
public import proofs.«01_k».proof.Proof.Gen.Wattn.Frame
public import proofs.«01_k».proof.Proof.Gen.WattnIdeal.Frame
public import proofs.«01_k».proof.Proof.Gen.WattnIdeal.Value
public import proofs.«01_k».proof.Proof.Gen.WattnRefIdeal.Run
public import proofs.«01_k».proof.Proof.WattnValue
public import proofs.«01_k».proof.Proof.Gen.Moe
public import proofs.«01_k».proof.Proof.Gen.MoeIdeal
public import proofs.«01_k».proof.Proof.Gen.MoeRefIdeal
public import proofs.«01_k».proof.Proof.Gen.Moe.Frame
public import proofs.«01_k».proof.Proof.Gen.MoeIdeal.Frame
public import proofs.«01_k».proof.Proof.Gen.MoeIdeal.Value
public import proofs.«01_k».proof.Proof.Gen.MoeRefIdeal.Run
public import proofs.«01_k».proof.Proof.MoeValue
public import proofs.«01_k».proof.Proof.Gen.Norm
public import proofs.«01_k».proof.Proof.Gen.NormIdeal
public import proofs.«01_k».proof.Proof.Gen.NormRefIdeal
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.NormValue
public import proofs.«01_k».proof.Proof.Gen.Inproj
public import proofs.«01_k».proof.Proof.Gen.InprojIdeal
public import proofs.«01_k».proof.Proof.Gen.InprojRefIdeal
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.InprojRun
public import proofs.«01_k».proof.Proof.InprojValue
public import proofs.«01_k».proof.Proof.Gen.Pre_finite
public import proofs.«01_k».proof.Proof.Gen.Pre_finite_in
public import proofs.«01_k».proof.Proof.WattnFinite
public import proofs.«01_k».proof.Proof.InprojFinite
public import Idealize.ShloMosaic.Lib.Claim
public import Idealize.ShloMosaic.Lib.Quiescent
public import Idealize.ShloMosaic.Adequacy
public import Idealize.ShloMosaic.Init

@[expose] public section

set_option maxRecDepth 16384
set_option maxHeartbeats 3200000

noncomputable section

namespace Cert.Proof

open Idealize.ShloMosaic Idealize.SL.Sem

/-- The reference of the sliding-window attention runs, changes no argument and ends with every semaphore at zero. -/
theorem wattn_ref_frame : Cert.quiescent_WattnRefIdeal (hWattnRefIdeal := Cert.WattnRefIdeal.Gen.facts) := by
  intro m g _
  hlo_run
  · exact fun _ => by repeat' constructor
  · exact sem_eq_zero_of_no_sems (by decide) _

/-- Over the extended reals the kernel of the sliding-window attention and its reference end with the same array. -/
theorem wattn_algebraic : Cert.algebraic_WattnIdeal_WattnRefIdeal_pre_finite
    (hWattnIdeal := Cert.WattnIdeal.Gen.facts) (hWattnRefIdeal := Cert.WattnRefIdeal.Gen.facts) (hPre_finite := Cert.Pre_finite.Gen.facts) := by
  pair_intro
  · run_from Cert.WattnIdeal.Gen.run_main m g
  · run_from Cert.WattnRefIdeal.Value.run m' g'
    obtain ⟨h0, h1, h2⟩ := hagree c
    obtain ⟨hA, hX⟩ := Cert.Finite.numbers _ _ _ (hpre c)
    rw [Cert.WattnRefIdeal.Part.res_eq, h0, h1, h2]
    exact (Cert.WattnIdeal.KVal.final m c hA hX).symm

/-- The reference of the mixture of experts runs, changes no argument and ends with every semaphore at zero. -/
theorem moe_ref_frame : Cert.quiescent_MoeRefIdeal (hMoeRefIdeal := Cert.MoeRefIdeal.Gen.facts) := by
  intro m g _
  hlo_run
  · exact fun _ => by repeat' constructor
  · exact sem_eq_zero_of_no_sems (by decide) _

/-- Over the extended reals the kernel of the mixture of experts and its reference end with the same array. -/
theorem moe_algebraic : Cert.algebraic_MoeIdeal_MoeRefIdeal
    (hMoeIdeal := Cert.MoeIdeal.Gen.facts) (hMoeRefIdeal := Cert.MoeRefIdeal.Gen.facts) := by
  pair_intro
  · run_from Cert.MoeIdeal.Gen.run_main m g
  · run_from Cert.MoeRefIdeal.Value.run m' g'
    obtain ⟨h0, h1, h2, h3, h4, h5, h6⟩ := hagree c
    rw [Cert.MoeRefIdeal.Part.res_eq, h0, h1, h2, h3, h4, h5, h6]
    exact (Cert.MoeIdeal.KVal.final m c).symm

/-- The reference of the final normalisation runs, changes no argument and ends with every semaphore at zero. -/
theorem norm_ref_frame : Cert.quiescent_NormRefIdeal (hNormRefIdeal := Cert.NormRefIdeal.Gen.facts) := by
  intro m g _
  hlo_run
  · exact fun _ => by repeat' constructor
  · exact sem_eq_zero_of_no_sems (by decide) _

/-- Over the extended reals the kernel of the final normalisation and its reference end with the same array. -/
theorem norm_algebraic : Cert.algebraic_NormIdeal_NormRefIdeal
    (hNormIdeal := Cert.NormIdeal.Gen.facts) (hNormRefIdeal := Cert.NormRefIdeal.Gen.facts) := by
  pair_intro
  · run_from Cert.NormIdeal.Gen.run_main m g
  · hlo_run
    exact (Cert.NormIdeal.KVal.final m c).symm

/-- The reference of the input projection runs, changes no argument and ends with every semaphore at zero. -/
theorem inproj_ref_frame : Cert.quiescent_InprojRefIdeal (hInprojRefIdeal := Cert.InprojRefIdeal.Gen.facts) := by
  intro m g _
  hlo_run
  · exact fun _ => by repeat' constructor
  · exact sem_eq_zero_of_no_sems (by decide) _

/-- Over the extended reals the kernel of the input projection and its reference end with the same array. -/
theorem inproj_algebraic : Cert.algebraic_InprojIdeal_InprojRefIdeal_pre_finite_in
    (hInprojIdeal := Cert.InprojIdeal.Gen.facts) (hInprojRefIdeal := Cert.InprojRefIdeal.Gen.facts) (hPre_finite_in := Cert.Pre_finite_in.Gen.facts) := by
  pair_intro
  · run_from Cert.InprojIdeal.Gen.run_main m g
    · exact Cert.InprojIdeal.Gen.V_main_arg2 m c
    · exact Cert.InprojIdeal.Gen.V_main_arg3 m c
  · run_from Cert.InprojRefIdeal.Value.run m' g'
    all_goals obtain ⟨h0, h1, h2, h3⟩ := hagree c
    · obtain ⟨hX, hM, hG, hW⟩ := Cert.InprojFinite.numbers _ _ _ _ (hpre c)
      rw [Cert.InprojRefIdeal.Part.res_v141, h0, h1, h2, h3]
      exact (Cert.InprojIdeal.KVal.final6 m c hX hM hG hW).symm
    · rw [Cert.InprojRefIdeal.Part.res_v148, h0, h1, h2, h3]
      exact (Cert.InprojIdeal.KVal.final7 m c).symm
    · rw [Cert.InprojRefIdeal.Part.res_v148, h0, h1, h2, h3]
      exact (Cert.InprojIdeal.KVal.final8 m c).symm
    · rw [Cert.InprojRefIdeal.Part.res_v148, h0, h1, h2, h3]
      exact (Cert.InprojIdeal.KVal.final9 m c).symm
    · rw [Cert.InprojRefIdeal.Part.res_v148, h0, h1, h2, h3]
      exact (Cert.InprojIdeal.KVal.final10 m c).symm
    · rw [Cert.InprojRefIdeal.Part.res_v148, Cert.InprojRefIdeal.Part.res_v154, h0, h1, h2, h3]
      exact (Cert.InprojIdeal.KVal.final11 m c).symm

/-- Everything claimed: each program runs and keeps its arguments, each idealization keeps what it says it keeps, and
    each kernel ends with its reference's array. -/
theorem claim : Cert.Claim :=
  ⟨Cert.Wattn.Gen.facts,
   Cert.WattnIdeal.Gen.facts,
   Cert.WattnRefIdeal.Gen.facts,
   Cert.Moe.Gen.facts,
   Cert.MoeIdeal.Gen.facts,
   Cert.MoeRefIdeal.Gen.facts,
   Cert.Norm.Gen.facts,
   Cert.NormIdeal.Gen.facts,
   Cert.NormRefIdeal.Gen.facts,
   Cert.Inproj.Gen.facts,
   Cert.InprojIdeal.Gen.facts,
   Cert.InprojRefIdeal.Gen.facts,
   Cert.Pre_finite.Gen.facts,
   Cert.Pre_finite_in.Gen.facts,
   fun m g _ => Cert.Wattn.Gen.frame m g,
   fun m g _ => Cert.WattnIdeal.Gen.frame m g,
   fun m g _ => Cert.WattnIdeal.Gen.frame m g,
   wattn_ref_frame,
   fun m g _ => wattn_ref_frame m g trivial,
   fun m g _ => Cert.Moe.Gen.frame m g,
   fun m g _ => Cert.MoeIdeal.Gen.frame m g,
   moe_ref_frame,
   fun m g _ => Cert.Norm.Gen.frame m g,
   fun m g _ => Cert.NormIdeal.Gen.frame m g,
   norm_ref_frame,
   fun m g _ => Cert.Inproj.Gen.frame m g,
   fun m g _ => Cert.InprojIdeal.Gen.frame m g,
   fun m g _ => Cert.InprojIdeal.Gen.frame m g,
   inproj_ref_frame,
   fun m g _ => inproj_ref_frame m g trivial,
   IdealRules.named_const.statement Cert.WattnIdeal.κ "mask" .f32 0xF149F2CA#32 ⊥ rfl,
   wattn_algebraic,
   trivial,
   moe_algebraic,
   trivial,
   norm_algebraic,
   trivial,
   inproj_algebraic⟩

end Cert.Proof

end
